-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_drawn_inputs [hPre_drawn_inputs : Cert.Pre_drawn_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_inputs [hPre_drawn_inputs : Cert.Pre_drawn_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn_inputs [hKernelIdeal : Cert.KernelIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn_inputs [hReferenceIdeal : Cert.ReferenceIdeal.Facts] [hPre_drawn_inputs : Cert.Pre_drawn_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn_inputs [hKernelIdeal : Cert.KernelIdeal.Facts] [hReferenceIdeal : Cert.ReferenceIdeal.Facts] [hPre_drawn_inputs : Cert.Pre_drawn_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_drawn_inputs : Cert.Pre_drawn_inputs.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_drawn_inputs (hKernelIdeal := hKernelIdeal) (hPre_drawn_inputs := hPre_drawn_inputs)
    ∧ quiescent_ReferenceIdeal (hReferenceIdeal := hReferenceIdeal)
    ∧ quiescent_ReferenceIdeal_pre_drawn_inputs (hReferenceIdeal := hReferenceIdeal) (hPre_drawn_inputs := hPre_drawn_inputs)
    ∧ preserves_Kernel_KernelIdeal
    ∧ algebraic_KernelIdeal_ReferenceIdeal_pre_drawn_inputs (hKernelIdeal := hKernelIdeal) (hReferenceIdeal := hReferenceIdeal) (hPre_drawn_inputs := hPre_drawn_inputs)
-- ==== Pre_drawn_inputs.lean ====
abbrev S1024x200x3 : Shape := ⟨3, ![1024, 200, 3]⟩
abbrev S1024x128 : Shape := ⟨2, ![1024, 128]⟩
abbrev S_ : Shape := ⟨0, ![]⟩
abbrev S1x128 : Shape := ⟨2, ![1, 128]⟩
abbrev S128 : Shape := ⟨1, ![128]⟩

class Facts : Prop where
  bcast_S_S1024x200x3 : S_.BroadcastsInDim S1024x200x3 (![] : Fin 0 → Fin S1024x200x3.rank)
  reducesTo_S1024x200x3_S_d0_1_2 : S1024x200x3.ReducesTo [0, 1, 2] S_
  h_S_ : 0 < S_.numel
  slices_S1024x128_S1x128_0_0 : S1024x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S1024x128 .f32) (main_v11 : IVec S_ 1) (main_v16 : IVec S_ 1) : IVec S_ 1 :=
  let main_v17 : IVec S_ 1 := andi main_v11 main_v16
  let main_v18 : FVec F S1x128 .f32 := (extractStridedSlice S1x128 ![0, 0] · slices_S1024x128_S1x128_0_0) main_arg3
  let main_v19 : FVec F S128 .f32 := shapeCast S128 main_v18 shapeCasts_S1x128_S128
  let main_cst_5 : FVec F S_ .f32 := constant S_ .f32 0x00000000#32
  let main_v20 : FVec F S128 .f32 := broadcastInDim S128 ![] bcast_S_S128 main_cst_5
  let main_v21 : IVec S128 1 := cmpf .oeq main_v19 main_v20
  let main_c_6 : IVec S_ 1 := constantI S_ 1 1#1
  let main_v22 : IVec S_ 1 := (fun x v => Host.reduce IntOp.andi x v reducesTo_S128_S_d0 h_S_) main_v21 main_c_6
  let main_v23 : IVec S_ 1 := andi main_v17 main_v22
  main_v23

def fn {F : FTy → Type} [FloatOps F] (main_arg0 : IVec S1024x200x3 32) (main_arg1 : FVec F S1024x128 .f32) (main_arg2 : FVec F S1024x128 .f32) (main_arg3 : FVec F S1024x128 .f32) : IVec S_ 1 :=
  let main_c : IVec S_ 32 := constantI S_ 32 0#32
  let main_v0 : IVec S1024x200x3 32 := broadcastInDim S1024x200x3 ![] bcast_S_S1024x200x3 main_c
  let main_v1 : IVec S1024x200x3 1 := cmpi .sge main_arg0 main_v0
  let main_c_0 : IVec S_ 32 := constantI S_ 32 1024#32
  let main_v2 : IVec S1024x200x3 32 := broadcastInDim S1024x200x3 ![] bcast_S_S1024x200x3 main_c_0
  let main_v3 : IVec S1024x200x3 1 := cmpi .slt main_arg0 main_v2
  let main_v4 : IVec S1024x200x3 1 := andi main_v1 main_v3
  let main_c_1 : IVec S_ 1 := constantI S_ 1 1#1
  let main_v5 : IVec S_ 1 := (fun x v => Host.reduce IntOp.andi x v reducesTo_S1024x200x3_S_d0_1_2 h_S_) main_v4 main_c_1
  let main_v6 : FVec F S1x128 .f32 := (extractStridedSlice S1x128 ![0, 0] · slices_S1024x128_S1x128_0_0) main_arg1
  let main_v7 : FVec F S128 .f32 := shapeCast S128 main_v6 shapeCasts_S1x128_S128
  let main_cst : FVec F S_ .f32 := constant S_ .f32 0x00000000#32
  let main_v8 : FVec F S128 .f32 := broadcastInDim S128 ![] bcast_S_S128 main_cst
  let main_v9 : IVec S128 1 := cmpf .oeq main_v7 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v5 main_v10
  let main_v12 : FVec F S1x128 .f32 := (extractStridedSlice S1x128 ![0, 0] · slices_S1024x128_S1x128_0_0) main_arg2
  let main_v13 : FVec F S128 .f32 := shapeCast S128 main_v12 shapeCasts_S1x128_S128
  let main_cst_3 : FVec F S_ .f32 := constant S_ .f32 0x00000000#32
  let main_v14 : FVec F S128 .f32 := broadcastInDim S128 ![] bcast_S_S128 main_cst_3
  let main_v15 : IVec S128 1 := cmpf .oeq main_v13 main_v14
  let main_c_4 : IVec S_ 1 := constantI S_ 1 1#1
  let main_v16 : IVec S_ 1 := (fun x v => Host.reduce IntOp.andi x v reducesTo_S128_S_d0 h_S_) main_v15 main_c_4
  fn_part1 (F := F) main_arg3 main_v11 main_v16
-- ==== Pre_indices_in_range.lean ====
abbrev S1024x200x3 : Shape := ⟨3, ![1024, 200, 3]⟩
abbrev S1024x128 : Shape := ⟨2, ![1024, 128]⟩
abbrev S_ : Shape := ⟨0, ![]⟩

class Facts : Prop where
  bcast_S_S1024x200x3 : S_.BroadcastsInDim S1024x200x3 (![] : Fin 0 → Fin S1024x200x3.rank)
  reducesTo_S1024x200x3_S_d0_1_2 : S1024x200x3.ReducesTo [0, 1, 2] S_
  h_S_ : 0 < S_.numel

variable [Facts]

def fn {F : FTy → Type} [FloatOps F] (main_arg0 : IVec S1024x200x3 32) (main_arg1 : FVec F S1024x128 .f32) (main_arg2 : FVec F S1024x128 .f32) (main_arg3 : FVec F S1024x128 .f32) : IVec S_ 1 :=
  let main_c : IVec S_ 32 := constantI S_ 32 0#32
  let main_v0 : IVec S1024x200x3 32 := broadcastInDim S1024x200x3 ![] bcast_S_S1024x200x3 main_c
  let main_v1 : IVec S1024x200x3 1 := cmpi .sge main_arg0 main_v0
  let main_c_0 : IVec S_ 32 := constantI S_ 32 1024#32
  let main_v2 : IVec S1024x200x3 32 := broadcastInDim S1024x200x3 ![] bcast_S_S1024x200x3 main_c_0
  let main_v3 : IVec S1024x200x3 1 := cmpi .slt main_arg0 main_v2
  let main_v4 : IVec S1024x200x3 1 := andi main_v1 main_v3
  let main_c_1 : IVec S_ 1 := constantI S_ 1 1#1
  let main_v5 : IVec S_ 1 := (fun x v => Host.reduce IntOp.andi x v reducesTo_S1024x200x3_S_d0_1_2 h_S_) main_v4 main_c_1
  main_v5
-- ==== Kernel.lean ====
abbrev S1024x200x3 : Shape := ⟨3, ![1024, 200, 3]⟩
abbrev S1024x128 : Shape := ⟨2, ![1024, 128]⟩
abbrev S204800x3 : Shape := ⟨2, ![204800, 3]⟩
abbrev S3x204800 : Shape := ⟨2, ![3, 204800]⟩
abbrev S3x32x50x128 : Shape := ⟨4, ![3, 32, 50, 128]⟩
abbrev S32x3x50x128 : Shape := ⟨4, ![32, 3, 50, 128]⟩
abbrev S204800x128 : Shape := ⟨2, ![204800, 128]⟩
abbrev S3x50x128 : Shape := ⟨3, ![3, 50, 128]⟩
abbrev S3x128x128 : Shape := ⟨3, ![3, 128, 128]⟩
abbrev S_ : Shape := ⟨0, ![]⟩
abbrev S1x3x50x128 : Shape := ⟨4, ![1, 3, 50, 128]⟩
abbrev S1x128x128 : Shape := ⟨3, ![1, 128, 128]⟩
abbrev S128x128 : Shape := ⟨2, ![128, 128]⟩
abbrev S1x1x128 : Shape := ⟨3, ![1, 1, 128]⟩
abbrev S128 : Shape := ⟨1, ![128]⟩
abbrev S1x1x16 : Shape := ⟨3, ![1, 1, 16]⟩
abbrev S16 : Shape := ⟨1, ![16]⟩
abbrev S1024x200x128 : Shape := ⟨3, ![1024, 200, 128]⟩

abbrev nBuf : Table → Nat
  | .hbm => 10
  | .local .scVector .vmem => 2
  | _ => 0

abbrev bufTy : (tb : Table) → Fin (nBuf tb) → BufTy
  | .hbm, ⟨0, _⟩ => ⟨S1024x200x3, .i32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S204800x3, .i32⟩
  | .hbm, ⟨5, _⟩ => ⟨S3x204800, .i32⟩
  | .hbm, ⟨6, _⟩ => ⟨S3x32x50x128, .i32⟩
  | .hbm, ⟨7, _⟩ => ⟨S32x3x50x128, .i32⟩
  | .hbm, ⟨8, _⟩ => ⟨S204800x128, .f32⟩
  | .hbm, ⟨9, _⟩ => ⟨S1024x200x128, .f32⟩
  | .local .scVector .vmem, ⟨0, _⟩ => ⟨S3x50x128, .i32⟩
  | .local .scVector .vmem, ⟨1, _⟩ => ⟨S3x128x128, .f32⟩
  | _, _ => ⟨S1024x200x3, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v3_scv : Ref sig .scVector := ⟨.hbm, 7, rfl⟩
abbrev main_v4_scv : Ref sig .scVector := ⟨.hbm, 8, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  let c0_i32_4_r0 : BitVec 32 := 0#32
  ![v1.toNat, 0, 0, 0]
@[reducible] def k0_t1_loop : Scf.Loop 32 :=
  let c0_i32_0 : BitVec 32 := 0#32
  let c50_i32 : BitVec 32 := 50#32
  let v2 : BitVec 32 := Scalar.addi c0_i32_0 c50_i32
  let c1_i32 : BitVec 32 := 1#32
  ⟨c0_i32_0, v2, c1_i32⟩
def k0_off2 (k0_t1 : Fin k0_t1_loop.trips) : Fin 3 → Nat :=
  let c0_i32_2 : BitVec 32 := 0#32
  let c0_i32_0 : BitVec 32 := 0#32
  let c1_i32 : BitVec 32 := 1#32
  let arg10 : BitVec 32 := Scf.iv c0_i32_0 c1_i32 k0_t1
  let c0_i32_6 : BitVec 32 := 0#32
  ![0, arg10.toNat, 0]
def k0_off3 (k0_t1 : Fin k0_t1_loop.trips) : Fin 3 → Nat :=
  let c1_i32_9 : BitVec 32 := 1#32
  let c0_i32_0 : BitVec 32 := 0#32
  let c1_i32 : BitVec 32 := 1#32
  let arg10 : BitVec 32 := Scf.iv c0_i32_0 c1_i32 k0_t1
  let c0_i32_13 : BitVec 32 := 0#32
  ![1, arg10.toNat, 0]
def k0_off4 (k0_t1 : Fin k0_t1_loop.trips) : Fin 3 → Nat :=
  let c2_i32_16 : BitVec 32 := 2#32
  let c0_i32_0 : BitVec 32 := 0#32
  let c1_i32 : BitVec 32 := 1#32
  let arg10 : BitVec 32 := Scf.iv c0_i32_0 c1_i32 k0_t1
  let c0_i32_20 : BitVec 32 := 0#32
  ![2, arg10.toNat, 0]
@[reducible] def k0_t2_loop : Scf.Loop 32 :=
  let c0_i32_45 : BitVec 32 := 0#32
  let c128_i32 : BitVec 32 := 128#32
  let v33 : BitVec 32 := Scalar.addi c0_i32_45 c128_i32
  let c1_i32_46 : BitVec 32 := 1#32
  ⟨c0_i32_45, v33, c1_i32_46⟩
def k0_off5 (k0_t2 : Fin k0_t2_loop.trips) : Fin 3 → Nat :=
  let c0_i32_51 : BitVec 32 := 0#32
  let v37 : Index := Scalar.indexCast c0_i32_51
  let c0_i32_45 : BitVec 32 := 0#32
  let c1_i32_46 : BitVec 32 := 1#32
  let arg11 : BitVec 32 := Scf.iv c0_i32_45 c1_i32_46 k0_t2
  let v38 : Index := Scalar.indexCast arg11
  let c0 : Index := 0#32
  ![0, v38.toNat, 0]
def k0_off6 (k0_t2 : Fin k0_t2_loop.trips) : Fin 3 → Nat :=
  let c1_i32_52 : BitVec 32 := 1#32
  let v41 : Index := Scalar.indexCast c1_i32_52
  let c0_i32_45 : BitVec 32 := 0#32
  let c1_i32_46 : BitVec 32 := 1#32
  let arg11 : BitVec 32 := Scf.iv c0_i32_45 c1_i32_46 k0_t2
  let v42 : Index := Scalar.indexCast arg11
  let c0_53 : Index := 0#32
  ![1, v42.toNat, 0]
def k0_off7 (k0_t2 : Fin k0_t2_loop.trips) : Fin 3 → Nat :=
  let c2_i32_54 : BitVec 32 := 2#32
  let v46 : Index := Scalar.indexCast c2_i32_54
  let c0_i32_45 : BitVec 32 := 0#32
  let c1_i32_46 : BitVec 32 := 1#32
  let arg11 : BitVec 32 := Scf.iv c0_i32_45 c1_i32_46 k0_t2
  let v47 : Index := Scalar.indexCast arg11
  let c0_55 : Index := 0#32
  ![2, v47.toNat, 0]
def k0_off8 (k0_t2 : Fin k0_t2_loop.trips) : Fin 3 → Nat :=
  let c0_i32_58 : BitVec 32 := 0#32
  let v56 : Index := Scalar.indexCast c0_i32_58
  let c0_i32_45 : BitVec 32 := 0#32
  let c1_i32_46 : BitVec 32 := 1#32
  let arg11 : BitVec 32 := Scf.iv c0_i32_45 c1_i32_46 k0_t2
  let v57 : Index := Scalar.indexCast arg11
  let c16 : Index := 16#32
  ![0, v57.toNat, 16]
def k0_off9 (k0_t2 : Fin k0_t2_loop.trips) : Fin 3 → Nat :=
  let c1_i32_59 : BitVec 32 := 1#32
  let v60 : Index := Scalar.indexCast c1_i32_59
  let c0_i32_45 : BitVec 32 := 0#32
  let c1_i32_46 : BitVec 32 := 1#32
  let arg11 : BitVec 32 := Scf.iv c0_i32_45 c1_i32_46 k0_t2
  let v61 : Index := Scalar.indexCast arg11
  let c16_60 : Index := 16#32
  ![1, v61.toNat, 16]
def k0_off10 (k0_t2 : Fin k0_t2_loop.trips) : Fin 3 → Nat :=
  let c2_i32_61 : BitVec 32 := 2#32
  let v65 : Index := Scalar.indexCast c2_i32_61
  let c0_i32_45 : BitVec 32 := 0#32
  let c1_i32_46 : BitVec 32 := 1#32
  let arg11 : BitVec 32 := Scf.iv c0_i32_45 c1_i32_46 k0_t2
  let v66 : Index := Scalar.indexCast arg11
  let c16_62 : Index := 16#32
  ![2, v66.toNat, 16]
def k0_off11 (k0_t2 : Fin k0_t2_loop.trips) : Fin 3 → Nat :=
  let c0_i32_65 : BitVec 32 := 0#32
  let v75 : Index := Scalar.indexCast c0_i32_65
  let c0_i32_45 : BitVec 32 := 0#32
  let c1_i32_46 : BitVec 32 := 1#32
  let arg11 : BitVec 32 := Scf.iv c0_i32_45 c1_i32_46 k0_t2
  let v76 : Index := Scalar.indexCast arg11
  let c32 : Index := 32#32
  ![0, v76.toNat, 32]
def k0_off12 (k0_t2 : Fin k0_t2_loop.trips) : Fin 3 → Nat :=
  let c1_i32_66 : BitVec 32 := 1#32
  let v79 : Index := Scalar.indexCast c1_i32_66
  let c0_i32_45 : BitVec 32 := 0#32
  let c1_i32_46 : BitVec 32 := 1#32
  let arg11 : BitVec 32 := Scf.iv c0_i32_45 c1_i32_46 k0_t2
  let v80 : Index := Scalar.indexCast arg11
  let c32_67 : Index := 32#32
  ![1, v80.toNat, 32]
def k0_off13 (k0_t2 : Fin k0_t2_loop.trips) : Fin 3 → Nat :=
  let c2_i32_68 : BitVec 32 := 2#32
  let v84 : Index := Scalar.indexCast c2_i32_68
  let c0_i32_45 : BitVec 32 := 0#32
  let c1_i32_46 : BitVec 32 := 1#32
  let arg11 : BitVec 32 := Scf.iv c0_i32_45 c1_i32_46 k0_t2
  let v85 : Index := Scalar.indexCast arg11
  let c32_69 : Index := 32#32
  ![2, v85.toNat, 32]
def k0_off14 (k0_t2 : Fin k0_t2_loop.trips) : Fin 3 → Nat :=
  let c0_i32_72 : BitVec 32 := 0#32
  let v94 : Index := Scalar.indexCast c0_i32_72
  let c0_i32_45 : BitVec 32 := 0#32
  let c1_i32_46 : BitVec 32 := 1#32
  let arg11 : BitVec 32 := Scf.iv c0_i32_45 c1_i32_46 k0_t2
  let v95 : Index := Scalar.indexCast arg11
  let c48 : Index := 48#32
  ![0, v95.toNat, 48]
def k0_off15 (k0_t2 : Fin k0_t2_loop.trips) : Fin 3 → Nat :=
  let c1_i32_73 : BitVec 32 := 1#32
  let v98 : Index := Scalar.indexCast c1_i32_73
  let c0_i32_45 : BitVec 32 := 0#32
  let c1_i32_46 : BitVec 32 := 1#32
  let arg11 : BitVec 32 := Scf.iv c0_i32_45 c1_i32_46 k0_t2
  let v99 : Index := Scalar.indexCast arg11
  let c48_74 : Index := 48#32
  ![1, v99.toNat, 48]
def k0_off16 (k0_t2 : Fin k0_t2_loop.trips) : Fin 3 → Nat :=
  let c2_i32_75 : BitVec 32 := 2#32
  let v103 : Index := Scalar.indexCast c2_i32_75
  let c0_i32_45 : BitVec 32 := 0#32
  let c1_i32_46 : BitVec 32 := 1#32
  let arg11 : BitVec 32 := Scf.iv c0_i32_45 c1_i32_46 k0_t2
  let v104 : Index := Scalar.indexCast arg11
  let c48_76 : Index := 48#32
  ![2, v104.toNat, 48]
def k0_off17 (k0_t2 : Fin k0_t2_loop.trips) : Fin 3 → Nat :=
  let c0_i32_79 : BitVec 32 := 0#32
  let v113 : Index := Scalar.indexCast c0_i32_79
  let c0_i32_45 : BitVec 32 := 0#32
  let c1_i32_46 : BitVec 32 := 1#32
  let arg11 : BitVec 32 := Scf.iv c0_i32_45 c1_i32_46 k0_t2
  let v114 : Index := Scalar.indexCast arg11
  let c64 : Index := 64#32
  ![0, v114.toNat, 64]
def k0_off18 (k0_t2 : Fin k0_t2_loop.trips) : Fin 3 → Nat :=
  let c1_i32_80 : BitVec 32 := 1#32
  let v117 : Index := Scalar.indexCast c1_i32_80
  let c0_i32_45 : BitVec 32 := 0#32
  let c1_i32_46 : BitVec 32 := 1#32
  let arg11 : BitVec 32 := Scf.iv c0_i32_45 c1_i32_46 k0_t2
  let v118 : Index := Scalar.indexCast arg11
  let c64_81 : Index := 64#32
  ![1, v118.toNat, 64]
def k0_off19 (k0_t2 : Fin k0_t2_loop.trips) : Fin 3 → Nat :=
  let c2_i32_82 : BitVec 32 := 2#32
  let v122 : Index := Scalar.indexCast c2_i32_82
  let c0_i32_45 : BitVec 32 := 0#32
  let c1_i32_46 : BitVec 32 := 1#32
  let arg11 : BitVec 32 := Scf.iv c0_i32_45 c1_i32_46 k0_t2
  let v123 : Index := Scalar.indexCast arg11
  let c64_83 : Index := 64#32
  ![2, v123.toNat, 64]
def k0_off20 (k0_t2 : Fin k0_t2_loop.trips) : Fin 3 → Nat :=
  let c0_i32_86 : BitVec 32 := 0#32
  let v132 : Index := Scalar.indexCast c0_i32_86
  let c0_i32_45 : BitVec 32 := 0#32
  let c1_i32_46 : BitVec 32 := 1#32
  let arg11 : BitVec 32 := Scf.iv c0_i32_45 c1_i32_46 k0_t2
  let v133 : Index := Scalar.indexCast arg11
  let c80 : Index := 80#32
  ![0, v133.toNat, 80]
def k0_off21 (k0_t2 : Fin k0_t2_loop.trips) : Fin 3 → Nat :=
  let c1_i32_87 : BitVec 32 := 1#32
  let v136 : Index := Scalar.indexCast c1_i32_87
  let c0_i32_45 : BitVec 32 := 0#32
  let c1_i32_46 : BitVec 32 := 1#32
  let arg11 : BitVec 32 := Scf.iv c0_i32_45 c1_i32_46 k0_t2
  let v137 : Index := Scalar.indexCast arg11
  let c80_88 : Index := 80#32
  ![1, v137.toNat, 80]
def k0_off22 (k0_t2 : Fin k0_t2_loop.trips) : Fin 3 → Nat :=
  let c2_i32_89 : BitVec 32 := 2#32
  let v141 : Index := Scalar.indexCast c2_i32_89
  let c0_i32_45 : BitVec 32 := 0#32
  let c1_i32_46 : BitVec 32 := 1#32
  let arg11 : BitVec 32 := Scf.iv c0_i32_45 c1_i32_46 k0_t2
  let v142 : Index := Scalar.indexCast arg11
  let c80_90 : Index := 80#32
  ![2, v142.toNat, 80]
def k0_off23 (k0_t2 : Fin k0_t2_loop.trips) : Fin 3 → Nat :=
  let c0_i32_93 : BitVec 32 := 0#32
  let v151 : Index := Scalar.indexCast c0_i32_93
  let c0_i32_45 : BitVec 32 := 0#32
  let c1_i32_46 : BitVec 32 := 1#32
  let arg11 : BitVec 32 := Scf.iv c0_i32_45 c1_i32_46 k0_t2
  let v152 : Index := Scalar.indexCast arg11
  let c96 : Index := 96#32
  ![0, v152.toNat, 96]
def k0_off24 (k0_t2 : Fin k0_t2_loop.trips) : Fin 3 → Nat :=
  let c1_i32_94 : BitVec 32 := 1#32
  let v155 : Index := Scalar.indexCast c1_i32_94
  let c0_i32_45 : BitVec 32 := 0#32
  let c1_i32_46 : BitVec 32 := 1#32
  let arg11 : BitVec 32 := Scf.iv c0_i32_45 c1_i32_46 k0_t2
  let v156 : Index := Scalar.indexCast arg11
  let c96_95 : Index := 96#32
  ![1, v156.toNat, 96]
def k0_off25 (k0_t2 : Fin k0_t2_loop.trips) : Fin 3 → Nat :=
  let c2_i32_96 : BitVec 32 := 2#32
  let v160 : Index := Scalar.indexCast c2_i32_96
  let c0_i32_45 : BitVec 32 := 0#32
  let c1_i32_46 : BitVec 32 := 1#32
  let arg11 : BitVec 32 := Scf.iv c0_i32_45 c1_i32_46 k0_t2
  let v161 : Index := Scalar.indexCast arg11
  let c96_97 : Index := 96#32
  ![2, v161.toNat, 96]
def k0_off26 (k0_t2 : Fin k0_t2_loop.trips) : Fin 3 → Nat :=
  let c0_i32_100 : BitVec 32 := 0#32
  let v170 : Index := Scalar.indexCast c0_i32_100
  let c0_i32_45 : BitVec 32 := 0#32
  let c1_i32_46 : BitVec 32 := 1#32
  let arg11 : BitVec 32 := Scf.iv c0_i32_45 c1_i32_46 k0_t2
  let v171 : Index := Scalar.indexCast arg11
  let c112 : Index := 112#32
  ![0, v171.toNat, 112]
def k0_off27 (k0_t2 : Fin k0_t2_loop.trips) : Fin 3 → Nat :=
  let c1_i32_101 : BitVec 32 := 1#32
  let v174 : Index := Scalar.indexCast c1_i32_101
  let c0_i32_45 : BitVec 32 := 0#32
  let c1_i32_46 : BitVec 32 := 1#32
  let arg11 : BitVec 32 := Scf.iv c0_i32_45 c1_i32_46 k0_t2
  let v175 : Index := Scalar.indexCast arg11
  let c112_102 : Index := 112#32
  ![1, v175.toNat, 112]
def k0_off28 (k0_t2 : Fin k0_t2_loop.trips) : Fin 3 → Nat :=
  let c2_i32_103 : BitVec 32 := 2#32
  let v179 : Index := Scalar.indexCast c2_i32_103
  let c0_i32_45 : BitVec 32 := 0#32
  let c1_i32_46 : BitVec 32 := 1#32
  let arg11 : BitVec 32 := Scf.iv c0_i32_45 c1_i32_46 k0_t2
  let v180 : Index := Scalar.indexCast arg11
  let c112_104 : Index := 112#32
  ![2, v180.toNat, 112]
def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50_i32_48 : BitVec 32 := 50#32
  let v34 : BitVec 32 := Scalar.muli v1 c50_i32_48
  let c0_i32_0 : BitVec 32 := 0#32
  let c1_i32 : BitVec 32 := 1#32
  let arg10 : BitVec 32 := Scf.iv c0_i32_0 c1_i32 k0_t1
  let v35 : BitVec 32 := Scalar.addi v34 arg10
  let c128_i32_49 : BitVec 32 := 128#32
  let v36 : BitVec 32 := Scalar.muli v35 c128_i32_49
  let c0_i32_53_r1 : BitVec 32 := 0#32
  ![v36.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200x3 : Shape := ⟨3, ![1024, 200, 3]⟩
abbrev S1024x128 : Shape := ⟨2, ![1024, 128]⟩
abbrev S_ : Shape := ⟨0, ![]⟩
abbrev S1024x200x128 : Shape := ⟨3, ![1024, 200, 128]⟩
abbrev S1 : Shape := ⟨1, ![1]⟩
abbrev S128 : Shape := ⟨1, ![128]⟩
abbrev S1024x200x1 : Shape := ⟨3, ![1024, 200, 1]⟩
abbrev S1024x200 : Shape := ⟨2, ![1024, 200]⟩
abbrev S1x1x1 : Shape := ⟨3, ![1, 1, 1]⟩

abbrev nBuf : Space → Nat
  | .hbm => 99
  | .vmem => 0
  | .smem => 0
  | _ => 0

abbrev bufTy : (tb : Table) → Fin (tcTables nBuf tb) → BufTy
  | .hbm, ⟨0, _⟩ => ⟨S1024x200x3, .i32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x200x128, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S128, .f32⟩
  | .hbm, ⟨10, _⟩ => ⟨S1024x128, .f32⟩
  | .hbm, ⟨11, _⟩ => ⟨S1024x200x1, .i32⟩
  | .hbm, ⟨12, _⟩ => ⟨S1024x200, .i32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200x1, .i32⟩
  | .hbm, ⟨21, _⟩ => ⟨S1, .i32⟩
  | .hbm, ⟨22, _⟩ => ⟨S_, .i32⟩
  | .hbm, ⟨23, _⟩ => ⟨S1024x200x1, .i32⟩
  | .hbm, ⟨24, _⟩ => ⟨S1024x200x1, .i1⟩
  | .hbm, ⟨25, _⟩ => ⟨S1x1x1, .i32⟩
  | .hbm, ⟨26, _⟩ => ⟨S1024x200x1, .i32⟩
  | .hbm, ⟨27, _⟩ => ⟨S1024x200x1, .i1⟩
  | .hbm, ⟨28, _⟩ => ⟨S1024x200x1, .i1⟩
  | .hbm, ⟨29, _⟩ => ⟨S_, .i1⟩
  | .hbm, ⟨30, _⟩ => ⟨S1024x200, .i1⟩
  | .hbm, ⟨31, _⟩ => ⟨S1024x200x128, .f32⟩
  | .hbm, ⟨32, _⟩ => ⟨S1024x200x128, .i1⟩
  | .hbm, ⟨33, _⟩ => ⟨S_, .f32⟩
  | .hbm, ⟨34, _⟩ => ⟨S1024x200x128, .f32⟩
  | .hbm, ⟨35, _⟩ => ⟨S1024x200x128, .f32⟩
  | .hbm, ⟨36, _⟩ => ⟨S1024x200x128, .f32⟩
  | .hbm, ⟨37, _⟩ => ⟨S_, .i32⟩
  | .hbm, ⟨38, _⟩ => ⟨S1, .i32⟩
  | .hbm, ⟨39, _⟩ => ⟨S_, .f32⟩
  | .hbm, ⟨40, _⟩ => ⟨S128, .f32⟩
  | .hbm, ⟨41, _⟩ => ⟨S1024x128, .f32⟩
  | .hbm, ⟨42, _⟩ => ⟨S1024x200x1, .i32⟩
  | .hbm, ⟨43, _⟩ => ⟨S1024x200, .i32⟩
  | .hbm, ⟨44, _⟩ => ⟨S_, .i32⟩
  | .hbm, ⟨45, _⟩ => ⟨S1024x200, .i32⟩
  | .hbm, ⟨46, _⟩ => ⟨S1024x200, .i1⟩
  | .hbm, ⟨47, _⟩ => ⟨S_, .i32⟩
  | .hbm, ⟨48, _⟩ => ⟨S1024x200, .i32⟩
  | .hbm, ⟨49, _⟩ => ⟨S1024x200, .i32⟩
  | .hbm, ⟨50, _⟩ => ⟨S1024x200, .i32⟩
  | .hbm, ⟨51, _⟩ => ⟨S1024x200x1, .i32⟩
  | .hbm, ⟨52, _⟩ => ⟨S1, .i32⟩
  | .hbm, ⟨53, _⟩ => ⟨S_, .i32⟩
  | .hbm, ⟨54, _⟩ => ⟨S1024x200x1, .i32⟩
  | .hbm, ⟨55, _⟩ => ⟨S1024x200x1, .i1⟩
  | .hbm, ⟨56, _⟩ => ⟨S1x1x1, .i32⟩
  | .hbm, ⟨57, _⟩ => ⟨S1024x200x1, .i32⟩
  | .hbm, ⟨58, _⟩ => ⟨S1024x200x1, .i1⟩
  | .hbm, ⟨59, _⟩ => ⟨S1024x200x1, .i1⟩
  | .hbm, ⟨60, _⟩ => ⟨S_, .i1⟩
  | .hbm, ⟨61, _⟩ => ⟨S1024x200, .i1⟩
  | .hbm, ⟨62, _⟩ => ⟨S1024x200x128, .f32⟩
  | .hbm, ⟨63, _⟩ => ⟨S1024x200x128, .i1⟩
  | .hbm, ⟨64, _⟩ => ⟨S_, .f32⟩
  | .hbm, ⟨65, _⟩ => ⟨S1024x200x128, .f32⟩
  | .hbm, ⟨66, _⟩ => ⟨S1024x200x128, .f32⟩
  | .hbm, ⟨67, _⟩ => ⟨S1024x200x128, .f32⟩
  | .hbm, ⟨68, _⟩ => ⟨S_, .i32⟩
  | .hbm, ⟨69, _⟩ => ⟨S1, .i32⟩
  | .hbm, ⟨70, _⟩ => ⟨S_, .f32⟩
  | .hbm, ⟨71, _⟩ => ⟨S128, .f32⟩
  | .hbm, ⟨72, _⟩ => ⟨S1024x128, .f32⟩
  | .hbm, ⟨73, _⟩ => ⟨S1024x200x1, .i32⟩
  | .hbm, ⟨74, _⟩ => ⟨S1024x200, .i32⟩
  | .hbm, ⟨75, _⟩ => ⟨S_, .i32⟩
  | .hbm, ⟨76, _⟩ => ⟨S1024x200, .i32⟩
  | .hbm, ⟨77, _⟩ => ⟨S1024x200, .i1⟩
  | .hbm, ⟨78, _⟩ => ⟨S_, .i32⟩
  | .hbm, ⟨79, _⟩ => ⟨S1024x200, .i32⟩
  | .hbm, ⟨80, _⟩ => ⟨S1024x200, .i32⟩
  | .hbm, ⟨81, _⟩ => ⟨S1024x200, .i32⟩
  | .hbm, ⟨82, _⟩ => ⟨S1024x200x1, .i32⟩
  | .hbm, ⟨83, _⟩ => ⟨S1, .i32⟩
  | .hbm, ⟨84, _⟩ => ⟨S_, .i32⟩
  | .hbm, ⟨85, _⟩ => ⟨S1024x200x1, .i32⟩
  | .hbm, ⟨86, _⟩ => ⟨S1024x200x1, .i1⟩
  | .hbm, ⟨87, _⟩ => ⟨S1x1x1, .i32⟩
  | .hbm, ⟨88, _⟩ => ⟨S1024x200x1, .i32⟩
  | .hbm, ⟨89, _⟩ => ⟨S1024x200x1, .i1⟩
  | .hbm, ⟨90, _⟩ => ⟨S1024x200x1, .i1⟩
  | .hbm, ⟨91, _⟩ => ⟨S_, .i1⟩
  | .hbm, ⟨92, _⟩ => ⟨S1024x200, .i1⟩
  | .hbm, ⟨93, _⟩ => ⟨S1024x200x128, .f32⟩
  | .hbm, ⟨94, _⟩ => ⟨S1024x200x128, .i1⟩
  | .hbm, ⟨95, _⟩ => ⟨S_, .f32⟩
  | .hbm, ⟨96, _⟩ => ⟨S1024x200x128, .f32⟩
  | .hbm, ⟨97, _⟩ => ⟨S1024x200x128, .f32⟩
  | .hbm, ⟨98, _⟩ => ⟨S1024x200x128, .f32⟩
  | _, _ => ⟨S1024x200x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v6 : Ref sig .tc := ⟨.hbm, 35, rfl⟩
abbrev main_v7 : Ref sig .tc := ⟨.hbm, 36, rfl⟩
abbrev main_c_1 : Ref sig .tc := ⟨.hbm, 37, rfl⟩
abbrev main_v8 : Ref sig .tc := ⟨.hbm, 38, rfl⟩
abbrev main_cst_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v13 : Ref sig .tc := ⟨.hbm, 66, rfl⟩
abbrev main_v14 : Ref sig .tc := ⟨.hbm, 67, rfl⟩
abbrev main_c_3 : Ref sig .tc := ⟨.hbm, 68, rfl⟩
abbrev main_v15 : Ref sig .tc := ⟨.hbm, 69, rfl⟩
abbrev main_cst_4 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v20 : Ref sig .tc := ⟨.hbm, 97, rfl⟩
abbrev main_v21 : Ref sig .tc := ⟨.hbm, 98, rfl⟩

abbrev nD : Nat := 1
abbrev τ : Topo := Topo.v7x

variable {F : FTy → Type} [FloatOps F]
-- ==== Proof.GatherBatch.lean ====
/- Several indirect gathers in flight on ONE DMA semaphore, as one batch of equal row transfers.

   An indirect gather is served row by row, each row an ordinary transfer that pays its own credit. A tile that
   starts three gathers on the same semaphore and then waits three times cannot say after the first wait which rows
   have arrived: it can only count. So the rows of ALL the gathers form one batch of transfers of equal credit, the
   first waits only count units, and the wait that drains the batch hands every row back.

   Stated for any float instance, any program and any number of gathers. -/
module

public import Idealize.ShloMosaic.Lib.Batch
public import Idealize.ShloMosaic.Lib.SparseCore.Stream

@[expose] public section

noncomputable section

namespace Cert.GatherBatch

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-! ## A run of consecutive members of a family -/

theorem empSep (P : sProp 𝕄) : iprop(emp ∗ P) = P :=
  BI.Entails.antisymm (show iprop(emp ∗ P) ⊢ P from emp_sep.1) (show P ⊢ iprop(emp ∗ P) from emp_sep.2)

theorem sepAssoc (P R S : sProp 𝕄) : iprop((P ∗ R) ∗ S) = iprop(P ∗ R ∗ S) :=
  BI.Entails.antisymm (show iprop((P ∗ R) ∗ S) ⊢ iprop(P ∗ R ∗ S) from sep_assoc.1) (show iprop(P ∗ R ∗ S) ⊢ iprop((P ∗ R) ∗ S) from sep_assoc.2)

/-- The members of a family from the `j`-th on are the next `o` of them and those from the `j + o`-th on. -/
theorem pending_run {n : ℕ} (Φ : Fin n → sProp 𝕄) (o : ℕ) : ∀ (j : ℕ) (h : j + o ≤ n),
    bigSep (Transfers.pending j) Φ
      = iprop(bigSep Finset.univ (fun i : Fin o => Φ ⟨j + i.val, by omega⟩) ∗ bigSep (Transfers.pending (j + o)) Φ) := by
  induction o with
  | zero =>
    intro j h
    rw [Finset.univ_eq_empty, BI.bigSep_empty]
    exact (empSep _).symm
  | succ o ih =>
    intro j h
    have e : (fun i : Fin o => Φ ⟨j + 1 + i.val, by omega⟩) = fun i : Fin o => Φ ⟨j + i.succ.val, by simp; omega⟩ := by
      funext i; congr 2; simp; omega
    have e' : j + 1 + o = j + (o + 1) := by omega
    rw [Transfers.bigSep_pending_step Φ j (by omega), ih (j + 1) (by omega), bigSep_univ_succ, e, e']
    exact (sepAssoc _ _ _).symm

/-- Nothing is left from the end of a family on. -/
theorem pending_end {n : ℕ} (Φ : Fin n → sProp 𝕄) : bigSep (Transfers.pending n) Φ = (BI.emp : sProp 𝕄) := by
  have : Transfers.pending (n := n) n = ∅ := by
    ext t; simp [Transfers.pending]
  rw [this, BI.bigSep_empty]

/-! ## Three families run together -/

/-- Three families of `n` members as one family of `n + n + n`. -/
def threeRuns {n : ℕ} (A B C : Fin n → sProp 𝕄) : Fin (n + n + n) → sProp 𝕄 := fun t =>
  if h : t.val < n then A ⟨t.val, h⟩
  else if h' : t.val < n + n then B ⟨t.val - n, by omega⟩
  else C ⟨t.val - (n + n), by omega⟩

instance threeRuns_storable {n : ℕ} (A B C : Fin n → sProp 𝕄) [∀ i, Storable (upEmb : UEmb _ 𝕄) (A i)]
    [∀ i, Storable (upEmb : UEmb _ 𝕄) (B i)] [∀ i, Storable (upEmb : UEmb _ 𝕄) (C i)] (t : Fin (n + n + n)) :
    Storable (upEmb : UEmb _ 𝕄) (threeRuns A B C t) := by
  unfold threeRuns; split
  · infer_instance
  · split <;> infer_instance

theorem threeRuns_first {n : ℕ} (A B C : Fin n → sProp 𝕄) (i : Fin n) (h) : threeRuns A B C ⟨0 + i.val, h⟩ = A i := by
  have hi := i.isLt
  unfold threeRuns
  rw [dif_pos (by simp)]
  congr 1; apply Fin.ext; simp

theorem threeRuns_second {n : ℕ} (A B C : Fin n → sProp 𝕄) (i : Fin n) (h) : threeRuns A B C ⟨n + i.val, h⟩ = B i := by
  have hi := i.isLt
  unfold threeRuns
  rw [dif_neg (by simp), dif_pos (by simp)]
  congr 1; apply Fin.ext; simp

theorem threeRuns_third {n : ℕ} (A B C : Fin n → sProp 𝕄) (i : Fin n) (h) : threeRuns A B C ⟨n + n + i.val, h⟩ = C i := by
  have hi := i.isLt
  unfold threeRuns
  rw [dif_neg (by simp; omega), dif_neg (by simp)]
  congr 1; apply Fin.ext; simp

/-- The whole of the one family is the three. -/
theorem threeRuns_all {n : ℕ} (A B C : Fin n → sProp 𝕄) :
    bigSep Finset.univ (threeRuns A B C) = iprop(bigSep Finset.univ A ∗ bigSep Finset.univ B ∗ bigSep Finset.univ C) := by
  rw [Transfers.bigSep_pending_zero, pending_run _ n 0 (by omega), pending_run _ n (0 + n) (by omega), pending_run _ n (0 + n + n) (by omega)]
  rw [show (fun i : Fin n => threeRuns A B C ⟨0 + i.val, by omega⟩) = A from funext fun i => threeRuns_first A B C i _,
    show (fun i : Fin n => threeRuns A B C ⟨0 + n + i.val, by omega⟩) = B from funext fun i => by
      rw [← threeRuns_second A B C i (by omega)]; congr 2; omega,
    show (fun i : Fin n => threeRuns A B C ⟨0 + n + n + i.val, by omega⟩) = C from funext fun i => by
      rw [← threeRuns_third A B C i (by omega)]; congr 2; omega,
    show 0 + n + n + n = n + n + n by omega, pending_end]
  have e : iprop(bigSep Finset.univ C ∗ emp) = bigSep Finset.univ C :=
    BI.Entails.antisymm (show iprop(bigSep Finset.univ C ∗ emp) ⊢ bigSep Finset.univ C from sep_emp.1) (show bigSep Finset.univ C ⊢ iprop(bigSep Finset.univ C ∗ emp) from sep_emp.2)
  exact congrArg (fun X => iprop(bigSep Finset.univ A ∗ bigSep Finset.univ B ∗ X)) e

/-! ## One gather's rows -/

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

section

variable (src : Memref sig c.2.kind sp s₀ e) (dst : Memref sig c.2.kind .vmem s e) (hg : s₀.Gathers a s)
  (offs : Memref sig c.2.kind .vmem si .i32) (hn : si.numel = s.size hg.axis') (hs : 0 < s.numel)
  (q qo : PosShare TreeShare) (fs : Buf (Elt F) (src.view.loc c)) (fd : Buf (Elt F) (dst.view.loc c)) (fo : Buf (Elt F) (offs.view.loc c))
  (hin : ∀ x, (offs.view.read (Elt F) fo x).toNat < s₀.size hg.axis)

/-- What the destination holds once the gather has landed: row `k` is the source's row that entry `k` of the list
    names. -/
abbrev gathered : Buf (Elt F) (dst.view.loc c) :=
  dst.view.write (Elt F) fd
    (SparseCore.gatherPayload hg (src.view.read (Elt F) fs) (SparseCore.rows (offs.view.read (Elt F) fo) hn hin)) Finset.univ

/-- The source's row that entry `j` of the list names. -/
abbrev rowRead (j : Fin (s.size hg.axis')) : (s.rowShape hg.axis').Idx → Elt F e :=
  fun i => src.view.read (Elt F) fs (hg.rowIdx (SparseCore.rows (offs.view.read (Elt F) fo) hn hin j) i)

/-- What the gather's row `j` hands back when it lands: the destination's row `j` written with the source's row that
    entry `j` of the list names, that entry's share, and a piece of the source's share. -/
def rowBack (j : Fin (s.size hg.axis')) : sProp 𝕄 :=
  iprop((dst.view.loc c ↦[(dst.view.slice (s.rowRect hg.axis' j)).set]{fullShare}
          ((dst.view.slice (s.rowRect hg.axis' j)).write (Elt F) fd (rowRead c src hg offs hn fs fo hin j) Finset.univ))
    ∗ (offs.view.loc c ↦[{offs.view.emb (si.rowMajor.symm (j.cast hn.symm))}]{qo} fo)
    ∗ (src.view.loc c ↦[src.view.set]{pieceOf q _ (Shape.size_pos_of_numel_pos hs hg.axis') j} fs))

omit [Preorder Lvl] in
instance rowBack_storable (j : Fin (s.size hg.axis')) :
    Storable (upEmb : UEmb _ 𝕄) (rowBack (Name := Name) (U := U) (Lvl := Lvl) (Ix := Ix) c src dst hg offs hn hs q qo fs fd fo hin j) := by
  unfold rowBack; infer_instance

/-- All the rows back are the destination gathered, the source's share and the list's share. -/
theorem rowBack_join :
    bigSep Finset.univ (rowBack (Name := Name) (U := U) (Lvl := Lvl) (Ix := Ix) c src dst hg offs hn hs q qo fs fd fo hin)
      ⊢ iprop((dst.view.loc c ↦[dst.view.set]{fullShare} (gathered c src dst hg offs hn fs fd fo hin))
          ∗ (offs.view.loc c ↦[offs.view.set]{qo} fo) ∗ (src.view.loc c ↦[src.view.set]{q} fs)) := by
  have hen : Function.Bijective fun j : Fin (s.size hg.axis') => si.rowMajor.symm (j.cast hn.symm) :=
    si.rowMajor.symm.bijective.comp (finCongr hn.symm).bijective
  have hW : ∀ k i, rowRead c src hg offs hn fs fo hin k i
      = SparseCore.gatherPayload hg (src.view.read (Elt F) fs) (SparseCore.rows (offs.view.read (Elt F) fo) hn hin) ((s.rowRect hg.axis' k).emb i) := fun k i => by
    unfold rowRead SparseCore.gatherPayload; rw [Shape.Gathers.idx_rowRect_emb]
  unfold rowBack
  iintro H
  ihave H := Transfers.bigSep_sep_out _ _ _ $$ H
  icases H with ⟨Hd, H⟩
  ihave H := Transfers.bigSep_sep_out _ _ _ $$ H
  icases H with ⟨Ho, Hs⟩
  isplitl [Hd]
  · iapply (pointsTo_rows_write c dst.view hg.axis' fd (rowRead c src hg offs hn fs fo hin) _ hW) $$ Hd
  isplitl [Ho]
  · iapply (Entails.of_eq (pointsTo_entries c offs.view _ hen qo fo).symm) $$ Ho
  · iapply (Entails.of_eq (pointsTo_piecesOf src.view.set fs _ q).symm) $$ Hs

end

/-! ## The issue -/

/-- A gather issued into a batch. The tile holds a share of the source, the destination outright, a share of the list
    whose words are all rows of the source, and the batch with its first `j` transfers issued; every row of the
    destination is worth `N` units (`hN`), and the batch's next transfers hand back the gather's rows (`hD`). It
    continues with the batch advanced by the gather's rows. -/
theorem wp_gather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} (ι : Ix) (N j j' u : ℕ)
    (hN : ∀ i, (dst.slice (s.rowRect hg.axis' i) (s.stride_rowRect hg.axis' i)).view.dmaCredit = N)
    (hs : 0 < s.numel) (hin : ∀ x, (offs.view.read (Elt F) fo x).toNat < s₀.size hg.axis)
    (hj' : j' = j + s.size hg.axis') (hj : j' ≤ n) (hu : u ≤ j * N)
    (hD : ∀ i : Fin (s.size hg.axis'), rowBack c src dst hg offs hn hs q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D j' u -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  subst hj'
  rw [SparseCore.enqueueIndirectGather_bind]
  let S : Stream nD τ sig (Elt F) :=
    Stream.issued c offs.view hn sem (fun i w => (SparseCore.rowOf (F := F) (s₀.size hg.axis) w).map (SparseCore.gatherRow (F := F) c src dst hg sem hsrc he hsp hr i)) 0
  let row : Fin (s.size hg.axis') → Fin (s₀.size hg.axis) := SparseCore.rows (offs.view.read (Elt F) fo) hn hin
  have hrows : ∀ i : Fin (s.size hg.axis'), (SparseCore.rowOf (F := F) (s₀.size hg.axis) (S.word fo i)).map (SparseCore.gatherRow (F := F) c src dst hg sem hsrc he hsp hr i)
      = some (SparseCore.gatherRow (F := F) c src dst hg sem hsrc he hsp hr i (row i)) := fun i => by
    change (SparseCore.rowOf (F := F) (s₀.size hg.axis) (offs.view.read (Elt F) fo (S.entry i))).map _ = _
    rw [SparseCore.rowOf_of_lt (hin _)]; rfl
  have hagree : S.RowsAgree := fun i x x' ρ ρ' h h' => by
    obtain ⟨_, _, rfl⟩ := Option.map_eq_some_iff.mp h
    obtain ⟨_, _, rfl⟩ := Option.map_eq_some_iff.mp h'
    rfl
  have hen : Function.Bijective S.entry := si.rowMajor.symm.bijective.comp (finCongr hn.symm).bijective
  have hsum : ∑ i, (SparseCore.gatherRow (F := F) c src dst hg sem hsrc he hsp hr i (row i)).dst.view.dmaCredit = s.size hg.axis' * N :=
    SparseCore.sum_rowCredit_eq _ hN rfl
  unfold Transfers.Batch
  iintro ⟨Hs, Hd, Ho, ⟨%γ, %γ₀, %κ, #Hinv, HI, H0, Hcred⟩⟩ Hk
  ihave HI := (Entails.of_eq (pending_run (fun t => count EC (γ t) 0) (s.size hg.axis') j hj)) $$ HI
  icases HI with ⟨Hγ, HI⟩
  ihave Hd := (Entails.of_eq (pointsTo_rows c dst.view hg.axis' fullShare fd)) $$ Hd
  ihave Ho := (Entails.of_eq (pointsTo_entries c offs.view S.entry hen qo fo)) $$ Ho
  ihave Hs := (Entails.of_eq (pointsTo_piecesOf src.view.set fs (Shape.size_pos_of_numel_pos hs hg.axis') q)) $$ Hs
  ihave H1 := Transfers.bigSep_sep_in _ _ _ $$ [Hd Hs]; · isplitl [Hd] <;> iassumption
  ihave H2 := Transfers.bigSep_sep_in _ _ _ $$ [Ho Hγ]; · isplitl [Ho] <;> iassumption
  ihave H3 := Transfers.bigSep_sep_in _ _ _ $$ [H1 H2]; · isplitl [H1] <;> iassumption
  iapply (wp_enqueueIndirectDma 𝒱 c bd Set.univ (qo := qo) (fo := fo)
    (rd := fun i => SparseCore.gatherRow (F := F) c src dst hg sem hsrc he hsp hr i (row i)) ι (s.size hg.axis' * N) hagree hrows hsum) $$ [H3]
  · unfold Stream.res
    iapply (Transfers.bigSep_mono_pers Finset.univ (inv κ (Transfers.batchBody EC (c, SemLoc.dma sem) N D γ γ₀)) _ _ fun i _ => ?_)
    rotate_left
    · isplitr; · iexact Hinv
      iexact H3
    iintro ⟨#Hinv, ⟨Hr, Hq⟩, He, Hg⟩
    isplitl [He]; · iexact He
    iintro He
    unfold rowRes
    iexists pieceOf q _ (Shape.size_pos_of_numel_pos hs hg.axis') i, fs, iprop((dst.view.loc c ↦[(dst.view.slice (s.rowRect hg.axis' i)).set]{fullShare}
          ((dst.view.slice (s.rowRect hg.axis' i)).write (Elt F) fd (rowRead c src hg offs hn fs fo hin i) Finset.univ)) ∗ S.heldEntry qo fo i)
    isplitl [Hq]; · iexact Hq
    isplitl [Hr He]
    · iapply writeUpdate_frame
      isplitl [Hr]
      · iapply (pointsTo_writeUpdate c (v := dst.view.slice (s.rowRect hg.axis' i)) subset_rfl) $$ Hr
      · iexact He
    · have hcu := Transfers.batch_creditUpdate EC (g := (c, SemLoc.dma sem)) (N := N) (D := D) (γ := γ) (γ₀ := γ₀) (ι := κ) ⟨j + i.val, Nat.lt_of_lt_of_le (Nat.add_lt_add_left i.isLt j) hj⟩
        (R₀ := iprop(((dst.view.loc c ↦[(dst.view.slice (s.rowRect hg.axis' i)).set]{fullShare}
          ((dst.view.slice (s.rowRect hg.axis' i)).write (Elt F) fd (rowRead c src hg offs hn fs fo hin i) Finset.univ)) ∗ S.heldEntry qo fo i)
          ∗ (src.view.loc c ↦[src.view.set]{pieceOf q _ (Shape.size_pos_of_numel_pos hs hg.axis') i} fs))) (sep_assoc.1.trans (hD i))
      have ha : (SparseCore.gatherRow (F := F) c src dst hg sem hsrc he hsp hr i (row i)).dst.view.amount (.dma sem) = N := hN i
      rw [ha]
      iapply hcu
      isplitr; · iexact Hinv
      iexact Hg
  iintro Hnew
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hnew as H
  iexact H

end Cert.GatherBatch

end
-- ==== Proof.KernelIdealRow.lean ====
/- The summing loop of one tile: three gathered slabs of 128 rows of 128 lanes, added into the first.

   The set-up of the launch and the names of the kernel's buffers come first; then the loop, sixteen lanes at a time,
   with the sum carried as a function of the slabs (`sumUpTo`). -/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The three tables, in HBM. -/
abbrev t0V : Memref sig .scVector .hbm S1024x128 .f32 := Memref.whole main_arg1_scv
abbrev t1V : Memref sig .scVector .hbm S1024x128 .f32 := Memref.whole main_arg2_scv
abbrev t2V : Memref sig .scVector .hbm S1024x128 .f32 := Memref.whole main_arg3_scv
/-- The row numbers, in HBM: per tile, per table, fifty lists of 128. -/
abbrev iV : Memref sig .scVector .hbm S32x3x50x128 .i32 := Memref.whole main_v3_scv
/-- The result, in HBM. -/
abbrev oV : Memref sig .scVector .hbm S204800x128 .f32 := Memref.whole main_v4_scv
/-- The tile's copy of its lists. -/
abbrev sV : Memref sig .scVector .vmem S3x50x128 .i32 := Memref.whole cc0_scratch0
/-- The three slabs that the gathers fill. -/
abbrev bV : Memref sig .scVector .vmem S3x128x128 .f32 := Memref.whole cc0_scratch1

/-- The place of slab `a`, row `b`, lane `c` in the buffer of the three slabs. -/
def pt3 (a : Fin 3) (b c : Fin 128) : S3x128x128.Idx := fun i => match i with
  | 0 => a
  | 1 => b
  | 2 => c

/-- Lane `m` of a chunk. -/
def lane (m : Fin 16) : S1x1x16.Idx := fun i => match i with
  | 0 => (0 : Fin 1)
  | 1 => (0 : Fin 1)
  | 2 => m

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- What the summing loop leaves of three gathered slabs `f` after its first `n` elements: those elements of
    slab 0, counted row by row, hold the sum of the three slabs' elements, and everything else is as it was. -/
def sumUpTo (f : S3x128x128.Idx → Elt F .f32) (n : ℕ) : S3x128x128.Idx → Elt F .f32 := fun x =>
  if (x 0).val = 0 ∧ 128 * (x 1).val + (x 2).val < n then
    FloatOps.addf (FloatOps.addf (f (pt3 0 (x 1) (x 2))) (f (pt3 1 (x 1) (x 2)))) (f (pt3 2 (x 1) (x 2)))
  else f x

/-- The payload of one store of the summing loop: sixteen lanes of the three slabs, added. -/
def chunkSum (a b c : S1x1x16.Idx → Elt F .f32) : S1x1x16.Idx → Elt F .f32 := fun x =>
  FloatOps.addf (FloatOps.addf (a x) (b x)) (c x)

/-- The printed form of a chunk's payload, the lanes read flat, added and set back in their shape, is that sum. -/
theorem shaped_sum (a b c : S1x1x16.Idx → Elt F .f32) :
    shapeCast S1x1x16 (addf (addf (shapeCast S16 a shapeCasts_S1x1x16_S16) (shapeCast S16 b shapeCasts_S1x1x16_S16))
      (shapeCast S16 c shapeCasts_S1x1x16_S16) : FVec F S16 .f32) shapeCasts_S16_S1x1x16 = chunkSum a b c := by
  funext x
  show chunkSum (shapeCast S1x1x16 (shapeCast S16 a _) _) (shapeCast S1x1x16 (shapeCast S16 b _) _)
    (shapeCast S1x1x16 (shapeCast S16 c _) _) x = _
  simp only [shapeCast_shapeCast]

/-- A place summed already holds the sum. -/
theorem sumUpTo_of_lt (f : S3x128x128.Idx → Elt F .f32) (n : ℕ) (y : S3x128x128.Idx)
    (h : (y 0).val = 0 ∧ 128 * (y 1).val + (y 2).val < n) :
    sumUpTo f n y = FloatOps.addf (FloatOps.addf (f (pt3 0 (y 1) (y 2))) (f (pt3 1 (y 1) (y 2)))) (f (pt3 2 (y 1) (y 2))) :=
  if_pos h

/-- A place not summed yet holds what was gathered there. -/
theorem sumUpTo_of_not (f : S3x128x128.Idx → Elt F .f32) (n : ℕ) (y : S3x128x128.Idx)
    (h : ¬((y 0).val = 0 ∧ 128 * (y 1).val + (y 2).val < n)) : sumUpTo f n y = f y :=
  if_neg h

/-- What a chunk's load of slab `a` reads in the lane of column `y 2`. -/
theorem lane_read (g : S3x128x128.Idx → Elt F .f32) (a : Fin 3) (r l : ℕ) (y : S3x128x128.Idx) (hy : (y 1).val = r)
    (hl : l ≤ (y 2).val) (hu : (y 2).val - l < 16)
    {o : Fin 3 → ℕ} (ho : o = ![a.val, r, l]) (h : ∀ i, o i + S1x1x16.size i ≤ S3x128x128.size i) :
    ((bV).access (Rect.unit (s := S3x128x128) o S1x1x16.size h)).read (Elt F) g (lane ⟨(y 2).val - l, hu⟩) = g (pt3 a (y 1) (y 2)) := by
  subst ho
  refine congrArg g ((Rect.unit (s := S3x128x128) ![a.val, r, l] S1x1x16.size h).emb_eq_of_coords (lane ⟨(y 2).val - l, hu⟩) (pt3 a (y 1) (y 2)) fun i => ?_)
  fin_cases i
  · show a.val = a.val + 1 * 0
    omega
  · show (y 1).val = r + 1 * 0
    omega
  · show (y 2).val = l + 1 * ((y 2).val - l)
    omega

/-- The store of one chunk's sums moves `sumUpTo` sixteen elements on. -/
theorem sumUpTo_step (f : S3x128x128.Idx → Elt F .f32) (n n' r l : ℕ) (hr : r < 128) (hl : l + 16 ≤ 128)
    (hn : n = 128 * r + l) (hn' : n' = 128 * r + l + 16)
    (h0 : ∀ a, (![0, r, l] : Fin 3 → ℕ) a + S1x1x16.size a ≤ S3x128x128.size a)
    (h1 : ∀ a, (![1, r, l] : Fin 3 → ℕ) a + S1x1x16.size a ≤ S3x128x128.size a)
    (h2 : ∀ a, (![2, r, l] : Fin 3 → ℕ) a + S1x1x16.size a ≤ S3x128x128.size a) (y : S3x128x128.Idx) :
    (((bV).access (Rect.unit (s := S3x128x128) ![0, r, l] S1x1x16.size h0)).write (Elt F) (sumUpTo f n)
      (chunkSum (((bV).access (Rect.unit (s := S3x128x128) ![0, r, l] S1x1x16.size h0)).read (Elt F) (sumUpTo f n))
        (((bV).access (Rect.unit (s := S3x128x128) ![1, r, l] S1x1x16.size h1)).read (Elt F) (sumUpTo f n))
        (((bV).access (Rect.unit (s := S3x128x128) ![2, r, l] S1x1x16.size h2)).read (Elt F) (sumUpTo f n))) Finset.univ :
        S3x128x128.Idx → Elt F .f32) y = sumUpTo f n' y := by
  have b1 : (y 1).val < 128 := (y 1).isLt
  have b2 : (y 2).val < 128 := (y 2).isLt
  generalize hw : chunkSum (F := F) _ _ _ = w
  show (bV).view.read (Elt F) (((bV).view.slice (Rect.unit (s := S3x128x128) ![0, r, l] S1x1x16.size h0)).write (Elt F) (sumUpTo f n) w
    Finset.univ) y = _
  rw [← View.writes_singleton]
  by_cases hy : (y 0).val = 0 ∧ (y 1).val = r ∧ l ≤ (y 2).val ∧ (y 2).val < l + 16
  · obtain ⟨y0, y1, y2, y3⟩ := hy
    have hu : (y 2).val - l < 16 := by omega
    rw [View.read_writes_cons_hit_of_coords (bV).view (sumUpTo f n) _ _ [] (lane ⟨(y 2).val - l, hu⟩) y (fun a => ?_)]
    · subst hw
      show FloatOps.addf (FloatOps.addf _ _) _ = _
      rw [lane_read (sumUpTo f n) 0 r l y y1 y2 hu (o := ![0, r, l]) rfl h0, lane_read (sumUpTo f n) 1 r l y y1 y2 hu (o := ![1, r, l]) rfl h1,
        lane_read (sumUpTo f n) 2 r l y y1 y2 hu (o := ![2, r, l]) rfl h2, sumUpTo_of_lt f n' y ⟨y0, by omega⟩,
        sumUpTo_of_not f n (pt3 0 (y 1) (y 2)), sumUpTo_of_not f n (pt3 1 (y 1) (y 2)), sumUpTo_of_not f n (pt3 2 (y 1) (y 2))]
      · exact fun h => absurd (show (2 : ℕ) = 0 from h.1) (by decide)
      · exact fun h => absurd (show (1 : ℕ) = 0 from h.1) (by decide)
      · intro h
        have h' : 128 * (y 1).val + (y 2).val < n := h.2
        omega
    · fin_cases a
      · show (y 0).val = 0 + 1 * 0
        omega
      · show (y 1).val = r + 1 * 0
        omega
      · show (y 2).val = l + 1 * ((y 2).val - l)
        omega
  · have hmiss : (bV).view.read (Elt F) ((bV).view.writes (Elt F) (sumUpTo f n) [⟨Rect.unit (s := S3x128x128) ![0, r, l] S1x1x16.size h0, w⟩]) y = sumUpTo f n y := by
      by_cases y0 : (y 0).val = 0
      · by_cases y1 : (y 1).val = r
        · exact View.read_writes_cons_miss_of_axis (bV).view _ _ _ y 2 l 16 rfl rfl rfl (by omega)
        · exact View.read_writes_cons_miss_of_axis (bV).view _ _ _ y 1 r 1 rfl rfl rfl (by omega)
      · exact View.read_writes_cons_miss_of_axis (bV).view _ _ _ y 0 0 1 rfl rfl rfl (by omega)
    refine hmiss.trans ?_
    by_cases hs : (y 0).val = 0 ∧ 128 * (y 1).val + (y 2).val < n
    · rw [sumUpTo_of_lt f n y hs, sumUpTo_of_lt f n' y ⟨hs.1, by omega⟩]
    · rw [sumUpTo_of_not f n y hs, sumUpTo_of_not f n' y (by omega)]

/-- One chunk of sixteen lanes of one row: three loads, a load whose value is dropped, and the store of the sum
    move the slabs from the first `n` elements summed to the first `n'`, sixteen more. -/
theorem wp_chunk {α : Type} (f : S3x128x128.Idx → Elt F .f32) (n n' r l : ℕ) (hr : r < 128) (hl : l + 16 ≤ 128)
    (hn : n = 128 * r + l) (hn' : n' = 128 * r + l + 16)
    {o0 o1 o2 : Fin 3 → ℕ} (e0 : o0 = ![0, r, l]) (e1 : o1 = ![1, r, l]) (e2 : o2 = ![2, r, l])
    {h0 : ∀ a, o0 a + S1x1x16.size a ≤ S3x128x128.size a} {h1 : ∀ a, o1 a + S1x1x16.size a ≤ S3x128x128.size a}
    {h2 : ∀ a, o2 a + S1x1x16.size a ≤ S3x128x128.size a}
    {l0 : (bV).view.LoadsAt (Rect.unit (s := S3x128x128) o0 S1x1x16.size h0).toLoadRect}
    {l1 : (bV).view.LoadsAt (Rect.unit (s := S3x128x128) o1 S1x1x16.size h1).toLoadRect}
    {l2 : (bV).view.LoadsAt (Rect.unit (s := S3x128x128) o2 S1x1x16.size h2).toLoadRect}
    {l3 : (bV).view.LoadsAt (Rect.unit (s := S3x128x128) o0 S1x1x16.size h0).toLoadRect}
    (pay : (S1x1x16.Idx → Elt F .f32) → (S1x1x16.Idx → Elt F .f32) → (S1x1x16.Idx → Elt F .f32) → S1x1x16.Idx → Elt F .f32)
    (hp : pay = chunkSum)
    {hx : ((bV).access (Rect.unit (s := S3x128x128) o0 S1x1x16.size h0)).Stores Finset.univ}
    {hm : (Finset.univ : Finset (Rect.unit (s := S3x128x128) o0 S1x1x16.size h0).shape.Idx) = Finset.univ ∨
      ∀ a, (Rect.unit (s := S3x128x128) o0 S1x1x16.size h0).stride a = 1}
    (k : PUnit → Prog (TpuEff nD τ sig (Elt F) Λ₀ (V d (cV L) (jV L)).2) α) (Q : α → sProp 𝕄) :
    ((bV).view.loc (V d (cV L) (jV L)) ↦{fullShare} sumUpTo f n : sProp 𝕄)
      ⊢ iprop((((bV).view.loc (V d (cV L) (jV L)) ↦{fullShare} sumUpTo f n') -∗
          wp frame (wpE (defs₀ (F := F)) 𝒱₀ (V d (cV L) (jV L)) none) Set.univ (k ⟨⟩) Q) -∗
        wp frame (wpE (defs₀ (F := F)) 𝒱₀ (V d (cV L) (jV L)) none) Set.univ
          (.op (.load bV (Rect.unit (s := S3x128x128) o0 S1x1x16.size h0).toLoadRect l0) fun a =>
            .op (.load bV (Rect.unit (s := S3x128x128) o1 S1x1x16.size h1).toLoadRect l1) fun b =>
            .op (.load bV (Rect.unit (s := S3x128x128) o2 S1x1x16.size h2).toLoadRect l2) fun c =>
            .op (.load bV (Rect.unit (s := S3x128x128) o0 S1x1x16.size h0).toLoadRect l3) fun _ =>
            .op (.store bV (Rect.unit (s := S3x128x128) o0 S1x1x16.size h0) (pay a b c) Finset.univ hx hm) k) Q) := by
  subst e0 e1 e2 hp
  have hw : ((bV).access (Rect.unit (s := S3x128x128) ![0, r, l] S1x1x16.size h0)).write (Elt F) (sumUpTo f n)
      (chunkSum (((bV).access (Rect.unit (s := S3x128x128) ![0, r, l] S1x1x16.size h0)).read (Elt F) (sumUpTo f n))
        (((bV).access (Rect.unit (s := S3x128x128) ![1, r, l] S1x1x16.size h1)).read (Elt F) (sumUpTo f n))
        (((bV).access (Rect.unit (s := S3x128x128) ![2, r, l] S1x1x16.size h2)).read (Elt F) (sumUpTo f n))) Finset.univ
      = sumUpTo f n' := by
    refine View.contents_ext (bV).view (fun y => ?_) (fun i hi => absurd rfl (hi i))
    exact sumUpTo_step f n n' r l hr hl hn hn' h0 h1 h2 y
  iintro Hb Hk
  iapply wp_load_rect (defs := defs₀ (F := F)) 𝒱₀ (V d (cV L) (jV L)) none Set.univ (m := bV)
    (r := Rect.unit (s := S3x128x128) ![0, r, l] S1x1x16.size h0) (S := Finset.univ) (Finset.subset_univ _) $$ Hb
  iintro Hb
  iapply wp_load_rect (defs := defs₀ (F := F)) 𝒱₀ (V d (cV L) (jV L)) none Set.univ (m := bV)
    (r := Rect.unit (s := S3x128x128) ![1, r, l] S1x1x16.size h1) (S := Finset.univ) (Finset.subset_univ _) $$ Hb
  iintro Hb
  iapply wp_load_rect (defs := defs₀ (F := F)) 𝒱₀ (V d (cV L) (jV L)) none Set.univ (m := bV)
    (r := Rect.unit (s := S3x128x128) ![2, r, l] S1x1x16.size h2) (S := Finset.univ) (Finset.subset_univ _) $$ Hb
  iintro Hb
  iapply wp_load_rect (defs := defs₀ (F := F)) 𝒱₀ (V d (cV L) (jV L)) none Set.univ (m := bV)
    (r := Rect.unit (s := S3x128x128) ![0, r, l] S1x1x16.size h0) (S := Finset.univ) (Finset.subset_univ _) $$ Hb
  iintro Hb
  iapply wp_store (defs := defs₀ (F := F)) 𝒱₀ (V d (cV L) (jV L)) none Set.univ (m := bV)
    (r := Rect.unit (s := S3x128x128) ![0, r, l] S1x1x16.size h0) (S := Finset.univ) (Finset.subset_univ _) $$ Hb
  iintro Hb
  iapply Hk
  rw [← hw]
  iexact Hb

set_option maxHeartbeats 2000000 in
theorem row_step (f : S3x128x128.Idx → Elt F .f32) (r : Fin k0_t2_loop.trips) :
    ((bV).view.loc (V d (cV L) (jV L)) ↦{fullShare} sumUpTo f (128 * r.val) : sProp 𝕄)
      ⊢ wp frame (wpE (defs₀ (F := F)) 𝒱₀ (V d (cV L) (jV L)) none) Set.univ
          (k0_t2_body L t0V (Memref.isWhole_whole _) t1V (Memref.isWhole_whole _) t2V (Memref.isWhole_whole _) iV (Memref.isWhole_whole _)
            oV (Memref.isWhole_whole _) sV (Memref.isWhole_whole _) bV (Memref.isWhole_whole _) cc0_scratch2 cc0_scoped0 cc0_scoped1 r ())
          fun _ => ((bV).view.loc (V d (cV L) (jV L)) ↦{fullShare} sumUpTo f (128 * (r.val + 1)) : sProp 𝕄) := by
  have hr : r.val < 128 := lt_of_lt_of_le r.isLt k0_t2_abs.2.1
  unfold k0_t2_body
  simp only [k0_part1_eq_skeleton, k0_part2_eq_skeleton, k0_part3_eq_skeleton]
  unfold k0_part1_skel k0_part2_skel k0_part3_skel
  simp only [Prog.lift, Prog.bind_assoc, Prog.bind_op, Prog.bind_ret, pure_bind]
  iintro Hb
  iapply wp_chunk d L f (128 * r.val + 0) (128 * r.val + 16) r.val 0 hr (by decide) rfl (by omega) (k0_off5_eq r) (k0_off6_eq r) (k0_off7_eq r)
    (fun a b c => k0_pay3 a b c) (funext fun a => funext fun b => funext fun c => shaped_sum a b c) $$ Hb
  iintro Hb
  iapply wp_chunk d L f (128 * r.val + 16) (128 * r.val + 32) r.val 16 hr (by decide) rfl (by omega) (k0_off8_eq r) (k0_off9_eq r) (k0_off10_eq r)
    (fun a b c => k0_pay4 a b c) (funext fun a => funext fun b => funext fun c => shaped_sum a b c) $$ Hb
  iintro Hb
  iapply wp_chunk d L f (128 * r.val + 32) (128 * r.val + 48) r.val 32 hr (by decide) rfl (by omega) (k0_off11_eq r) (k0_off12_eq r) (k0_off13_eq r)
    (fun a b c => k0_pay5 a b c) (funext fun a => funext fun b => funext fun c => shaped_sum a b c) $$ Hb
  iintro Hb
  iapply wp_chunk d L f (128 * r.val + 48) (128 * r.val + 64) r.val 48 hr (by decide) rfl (by omega) (k0_off14_eq r) (k0_off15_eq r) (k0_off16_eq r)
    (fun a b c => k0_pay6 a b c) (funext fun a => funext fun b => funext fun c => shaped_sum a b c) $$ Hb
  iintro Hb
  iapply wp_chunk d L f (128 * r.val + 64) (128 * r.val + 80) r.val 64 hr (by decide) rfl (by omega) (k0_off17_eq r) (k0_off18_eq r) (k0_off19_eq r)
    (fun a b c => k0_pay8 (k0_pay7 a) b c) (funext fun a => funext fun b => funext fun c => shaped_sum a b c) $$ Hb
  iintro Hb
  iapply wp_chunk d L f (128 * r.val + 80) (128 * r.val + 96) r.val 80 hr (by decide) rfl (by omega) (k0_off20_eq r) (k0_off21_eq r) (k0_off22_eq r)
    (fun a b c => k0_pay9 a b c) (funext fun a => funext fun b => funext fun c => shaped_sum a b c) $$ Hb
  iintro Hb
  iapply wp_chunk d L f (128 * r.val + 96) (128 * r.val + 112) r.val 96 hr (by decide) rfl (by omega) (k0_off23_eq r) (k0_off24_eq r) (k0_off25_eq r)
    (fun a b c => k0_pay1 (k0_pay10 a) b c) (funext fun a => funext fun b => funext fun c => shaped_sum a b c) $$ Hb
  iintro Hb
  iapply wp_chunk d L f (128 * r.val + 112) (128 * r.val + 128) r.val 112 hr (by decide) rfl (by omega) (k0_off26_eq r) (k0_off27_eq r) (k0_off28_eq r)
    (fun a b c => k0_pay2 a b c) (funext fun a => funext fun b => funext fun c => shaped_sum a b c) $$ Hb
  iintro Hb
  sl_step
  iexact Hb

/-- The loop makes 128 trips, one to a row. -/
theorem trips_rows : k0_t2_loop.trips = 128 := by decide +kernel

/-- The summing loop: from the three slabs at `f` to slab 0 holding their sum. -/
theorem wp_sum {α : Type} (f : S3x128x128.Idx → Elt F .f32)
    (k : Unit → Prog (TpuEff nD τ sig (Elt F) Λ₀ (V d (cV L) (jV L)).2) α) (Q : α → sProp 𝕄) :
    ((bV).view.loc (V d (cV L) (jV L)) ↦{fullShare} f : sProp 𝕄)
      ⊢ iprop((((bV).view.loc (V d (cV L) (jV L)) ↦{fullShare} sumUpTo f (128 * 128)) -∗
          wp frame (wpE (defs₀ (F := F)) 𝒱₀ (V d (cV L) (jV L)) none) Set.univ (k ⟨⟩) Q) -∗
        wp frame (wpE (defs₀ (F := F)) 𝒱₀ (V d (cV L) (jV L)) none) Set.univ
          (Scf.Loop.for k0_t2_loop k0_t2_ok ⟨⟩ (k0_t2_body L t0V (Memref.isWhole_whole _) t1V (Memref.isWhole_whole _) t2V (Memref.isWhole_whole _)
            iV (Memref.isWhole_whole _) oV (Memref.isWhole_whole _) sV (Memref.isWhole_whole _) bV (Memref.isWhole_whole _)
            cc0_scratch2 cc0_scoped0 cc0_scoped1) >>= k) Q) := by
  have h0 : sumUpTo f (128 * 0) = f := funext fun y => sumUpTo_of_not f _ y (by omega)
  have h := Scf.wp_for_bind frame (wpE (defs₀ (F := F)) 𝒱₀ (V d (cV L) (jV L)) none) Set.univ _ _ _ k0_t2_ok ⟨⟩
    (k0_t2_body L t0V (Memref.isWhole_whole _) t1V (Memref.isWhole_whole _) t2V (Memref.isWhole_whole _)
            iV (Memref.isWhole_whole _) oV (Memref.isWhole_whole _) sV (Memref.isWhole_whole _) bV (Memref.isWhole_whole _)
            cc0_scratch2 cc0_scoped0 cc0_scoped1)
    (fun n _ => ((bV).view.loc (V d (cV L) (jV L)) ↦{fullShare} sumUpTo f (128 * n) : sProp 𝕄)) (fun r _ => row_step d L f r) (kk := k) (Q := Q)
  rw [h0] at h
  refine h.trans (wand_mono_left ?_)
  iintro H %acc Hb
  iapply H
  rw [← trips_rows]
  iexact Hb

end Tile

end Cert.Proof.KernelIdeal

end
-- ==== Proof.KernelIdealViews.lean ====
/- Where the views that one tile's copies go through place their elements, and the tile's result as a function.

   A tile reads its lists out of the array of row numbers, gathers a slab of rows from each table, and writes 128 rows
   of the result at a time. Each of those goes through a slice, often squeezed; here is the place of each element. -/
module

public import proofs.«01_k».proof.Proof.KernelIdealRow

@[expose] public section

noncomputable section

namespace Cert.Proof.KernelIdeal

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## Places, by their coordinates -/

/-- Row `b`, lane `c` of a table. -/
def ptT (b : Fin 1024) (c : Fin 128) : S1024x128.Idx := fun i => match i with
  | 0 => b
  | 1 => c

/-- Row `b`, lane `c` of the result. -/
def ptO (b : Fin 204800) (c : Fin 128) : S204800x128.Idx := fun i => match i with
  | 0 => b
  | 1 => c

/-- Entry `r` of list `g` of table `a`, in a tile's copy of its lists. -/
def ptS (a : Fin 3) (g : Fin 50) (r : Fin 128) : S3x50x128.Idx := fun i => match i with
  | 0 => a
  | 1 => g
  | 2 => r

/-- Entry `r` of list `g` of table `a` of tile `w`, in the array of row numbers. -/
def ptI (w : Fin 32) (a : Fin 3) (g : Fin 50) (r : Fin 128) : S32x3x50x128.Idx := fun i => match i with
  | 0 => w
  | 1 => a
  | 2 => g
  | 3 => r

/-! ## The views -/

/-- One slab of the buffer of three. -/
abbrev slabV (o : Fin 3 → ℕ) (h : ∀ i, o i + S1x128x128.size i ≤ S3x128x128.size i) : Memref sig .scVector .vmem S128x128 .f32 :=
  ((bV).slice (Rect.unit (s := S3x128x128) o S1x128x128.size h) (fun _ => rfl)).squeeze S128x128 squeezes_S1x128x128_S128x128
/-- One list of 128 row numbers of the tile's copy. -/
abbrev listV (o : Fin 3 → ℕ) (h : ∀ i, o i + S1x1x128.size i ≤ S3x50x128.size i) : Memref sig .scVector .vmem S128 .i32 :=
  ((sV).slice (Rect.unit (s := S3x50x128) o S1x1x128.size h) (fun _ => rfl)).squeeze S128 squeezes_S1x1x128_S128
/-- One tile's lists in the array of row numbers. -/
abbrev tileV (o : Fin 4 → ℕ) (h : ∀ i, o i + S1x3x50x128.size i ≤ S32x3x50x128.size i) : Memref sig .scVector .hbm S3x50x128 .i32 :=
  ((iV).slice (Rect.unit (s := S32x3x50x128) o S1x3x50x128.size h) (fun _ => rfl)).squeeze S3x50x128 squeezes_S1x3x50x128_S3x50x128
/-- 128 rows of the result. -/
abbrev blockV (o : Fin 2 → ℕ) (h : ∀ i, o i + S128x128.size i ≤ S204800x128.size i) : Memref sig .scVector .hbm S128x128 .f32 :=
  (oV).slice (Rect.unit (s := S204800x128) o S128x128.size h) (fun _ => rfl)
/-- A table, all of it, as the gathers address it. -/
abbrev allV (t : Memref sig .scVector .hbm S1024x128 .f32) : Memref sig .scVector .hbm S1024x128 .f32 :=
  t.slice (Rect.unit (s := S1024x128) ![0, 0] S1024x128.size inb_S1024x128_S1024x128_0_0) (fun _ => rfl)

theorem emb_slab (a : Fin 3) (o : Fin 3 → ℕ) (h) (ho : o = ![a.val, 0, 0]) (y : S128x128.Idx) :
    (slabV o h).view.emb y = pt3 a (y 0) (y 1) := by
  subst ho
  have e : Shape.reshapeEquiv (squeezes_S1x128x128_S128x128).numel_eq y
      = (fun i => match i with | 0 => (0 : Fin 1) | 1 => y 0 | 2 => y 1 : S1x128x128.Idx) :=
    Shape.reshapeEquiv_eq_of_rowMajor _ (by
      rw [Shape.rowMajor_val_three, Shape.rowMajor_val_two]
      show (0 * 128 + (y 0).val) * 128 + (y 1).val = (y 0).val * 128 + (y 1).val
      omega)
  show (Rect.unit (s := S3x128x128) ![a.val, 0, 0] S1x128x128.size h).emb (Shape.reshapeEquiv (squeezes_S1x128x128_S128x128).numel_eq y) = _
  rw [e]
  refine Rect.emb_eq_of_coords _ _ _ fun i => ?_
  match i with
  | 0 => show a.val = a.val + 1 * 0; omega
  | 1 => show (y 0).val = 0 + 1 * (y 0).val; omega
  | 2 => show (y 1).val = 0 + 1 * (y 1).val; omega

theorem emb_list (a : Fin 3) (g : Fin 50) (o : Fin 3 → ℕ) (h) (ho : o = ![a.val, g.val, 0]) (y : S128.Idx) :
    (listV o h).view.emb y = ptS a g (y 0) := by
  subst ho
  have e : Shape.reshapeEquiv (squeezes_S1x1x128_S128).numel_eq y
      = (fun i => match i with | 0 => (0 : Fin 1) | 1 => (0 : Fin 1) | 2 => y 0 : S1x1x128.Idx) :=
    Shape.reshapeEquiv_eq_of_rowMajor _ (by
      rw [Shape.rowMajor_val_three, Shape.rowMajor_val_one]
      show (0 * 1 + 0) * 128 + (y 0).val = (y 0).val
      omega)
  show (Rect.unit (s := S3x50x128) ![a.val, g.val, 0] S1x1x128.size h).emb (Shape.reshapeEquiv (squeezes_S1x1x128_S128).numel_eq y) = _
  rw [e]
  refine Rect.emb_eq_of_coords _ _ _ fun i => ?_
  match i with
  | 0 => show a.val = a.val + 1 * 0; omega
  | 1 => show g.val = g.val + 1 * 0; omega
  | 2 => show (y 0).val = 0 + 1 * (y 0).val; omega

theorem emb_tile (w : Fin 32) (o : Fin 4 → ℕ) (h) (ho : o = ![w.val, 0, 0, 0]) (y : S3x50x128.Idx) :
    (tileV o h).view.emb y = ptI w (y 0) (y 1) (y 2) := by
  subst ho
  have e : Shape.reshapeEquiv (squeezes_S1x3x50x128_S3x50x128).numel_eq y
      = (fun i => match i with | 0 => (0 : Fin 1) | 1 => y 0 | 2 => y 1 | 3 => y 2 : S1x3x50x128.Idx) :=
    Shape.reshapeEquiv_eq_of_rowMajor _ (by
      rw [Shape.rowMajor_val_four, Shape.rowMajor_val_three]
      show ((0 * 3 + (y 0).val) * 50 + (y 1).val) * 128 + (y 2).val = ((y 0).val * 50 + (y 1).val) * 128 + (y 2).val
      omega)
  show (Rect.unit (s := S32x3x50x128) ![w.val, 0, 0, 0] S1x3x50x128.size h).emb (Shape.reshapeEquiv (squeezes_S1x3x50x128_S3x50x128).numel_eq y) = _
  rw [e]
  refine Rect.emb_eq_of_coords _ _ _ fun i => ?_
  match i with
  | 0 => show w.val = w.val + 1 * 0; omega
  | 1 => show (y 0).val = 0 + 1 * (y 0).val; omega
  | 2 => show (y 1).val = 0 + 1 * (y 1).val; omega
  | 3 => show (y 2).val = 0 + 1 * (y 2).val; omega

theorem emb_block (n : ℕ) (o : Fin 2 → ℕ) (h) (ho : o = ![n, 0]) (y : S128x128.Idx) (b : Fin 204800) (hb : b.val = n + (y 0).val) :
    (blockV o h).view.emb y = ptO b (y 1) := by
  subst ho
  show (Rect.unit (s := S204800x128) ![n, 0] S128x128.size h).emb y = _
  refine Rect.emb_eq_of_coords _ _ _ fun i => ?_
  match i with
  | 0 => show b.val = n + 1 * (y 0).val; omega
  | 1 => show (y 1).val = 0 + 1 * (y 1).val; omega

theorem emb_all (y : S1024x128.Idx) :
    (Rect.unit (s := S1024x128) ![0, 0] S1024x128.size inb_S1024x128_S1024x128_0_0).emb y = y := by
  refine Rect.emb_eq_of_coords _ _ _ fun i => ?_
  match i with
  | 0 => show (y 0).val = 0 + 1 * (y 0).val; omega
  | 1 => show (y 1).val = 0 + 1 * (y 1).val; omega

/-! ## The elements of each view -/

theorem mem_view_set {sp : Space} {s : Shape} {e : EltTy} (v : View sig .scVector sp s e) (x : v.ty.Idx) :
    x ∈ v.set ↔ ∃ y, v.emb y = x := by
  constructor
  · intro h
    obtain ⟨y, -, hy⟩ := Finset.mem_map.mp h
    exact ⟨y, hy⟩
  · rintro ⟨y, rfl⟩
    exact v.emb_mem_set y

/-- Slab `a` is the places of first coordinate `a`. -/
theorem mem_slab (a : Fin 3) (o : Fin 3 → ℕ) (h) (ho : o = ![a.val, 0, 0]) (x : S3x128x128.Idx) :
    x ∈ (slabV o h).view.set ↔ x 0 = a := by
  refine (mem_view_set (slabV o h).view x).trans ⟨?_, fun hx => ⟨fun i => match i with | 0 => x 1 | 1 => x 2, ?_⟩⟩
  · rintro ⟨y, rfl⟩
    rw [emb_slab a o h ho y]
    rfl
  · rw [emb_slab a o h ho]
    funext i
    match i with
    | 0 => exact hx.symm
    | 1 => rfl
    | 2 => rfl

/-- List `g` of table `a` is the places of those two first coordinates. -/
theorem mem_list (a : Fin 3) (g : Fin 50) (o : Fin 3 → ℕ) (h) (ho : o = ![a.val, g.val, 0]) (x : S3x50x128.Idx) :
    x ∈ (listV o h).view.set ↔ x 0 = a ∧ x 1 = g := by
  refine (mem_view_set (listV o h).view x).trans ⟨?_, fun hx => ⟨fun i => match i with | 0 => x 2, ?_⟩⟩
  · rintro ⟨y, rfl⟩
    rw [emb_list a g o h ho y]
    exact ⟨rfl, rfl⟩
  · rw [emb_list a g o h ho]
    funext i
    match i with
    | 0 => exact hx.1.symm
    | 1 => exact hx.2.symm
    | 2 => rfl

/-- Tile `w`'s lists are the places of first coordinate `w`. -/
theorem mem_tile (w : Fin 32) (o : Fin 4 → ℕ) (h) (ho : o = ![w.val, 0, 0, 0]) (x : S32x3x50x128.Idx) :
    x ∈ (tileV o h).view.set ↔ x 0 = w := by
  refine (mem_view_set (tileV o h).view x).trans ⟨?_, fun hx => ⟨fun i => match i with | 0 => x 1 | 1 => x 2 | 2 => x 3, ?_⟩⟩
  · rintro ⟨y, rfl⟩
    rw [emb_tile w o h ho y]
    rfl
  · rw [emb_tile w o h ho]
    funext i
    match i with
    | 0 => exact hx.symm
    | 1 => rfl
    | 2 => rfl
    | 3 => rfl

/-- A block of the result is 128 rows of it. -/
theorem mem_block (n : ℕ) (hn : n + 128 ≤ 204800) (o : Fin 2 → ℕ) (h) (ho : o = ![n, 0]) (x : S204800x128.Idx) :
    x ∈ (blockV o h).view.set ↔ n ≤ (x 0).val ∧ (x 0).val < n + 128 := by
  refine (mem_view_set (blockV o h).view x).trans ⟨?_, fun hx => ⟨fun i => match i with | 0 => ⟨(x 0).val - n, by show _ < 128; omega⟩ | 1 => x 1, ?_⟩⟩
  · rintro ⟨y, rfl⟩
    have hy : (y 0).val < 128 := (y 0).isLt
    rw [emb_block n o h ho y ⟨n + (y 0).val, by omega⟩ rfl]
    show n ≤ n + (y 0).val ∧ n + (y 0).val < n + 128
    omega
  · rw [emb_block n o h ho _ (x 0) (by show (x 0).val = n + ((x 0).val - n); omega)]
    funext i
    match i with
    | 0 => rfl
    | 1 => rfl

/-! ## What a tile computes -/

/-- The table's row that a row number names. -/
def rowAt (b : BitVec 32) : Fin 1024 := ⟨b.toNat % 1024, Nat.mod_lt _ (by decide)⟩

variable [FloatOps F]

/-- The result as the kernel lays it out: row `R` belongs to tile `R / 6400`, list `R % 6400 / 128`, entry `R % 128`,
    and is the sum of the three tables' rows that the entry names. -/
def embedOut (idx : S32x3x50x128.Idx → BitVec 32) (t0 t1 t2 : S1024x128.Idx → Elt F .f32) : S204800x128.Idx → Elt F .f32 := fun x =>
  let at' (a : Fin 3) : Fin 1024 := rowAt (idx (ptI
    ⟨(x 0).val / 6400, Nat.div_lt_of_lt_mul (show (x 0).val < 6400 * 32 from (x 0).isLt)⟩ a
    ⟨(x 0).val % 6400 / 128, Nat.div_lt_of_lt_mul (show (x 0).val % 6400 < 128 * 50 from Nat.mod_lt _ (by decide))⟩
    ⟨(x 0).val % 128, Nat.mod_lt _ (by decide)⟩))
  FloatOps.addf (FloatOps.addf (t0 (ptT (at' 0) (x 1))) (t1 (ptT (at' 1) (x 1)))) (t2 (ptT (at' 2) (x 1)))

/-- The three slabs once list `g`'s gathers have landed. -/
def slabs (fi : S3x50x128.Idx → BitVec 32) (t0 t1 t2 : S1024x128.Idx → Elt F .f32) (g : Fin 50) : S3x128x128.Idx → Elt F .f32 := fun x =>
  if (x 0).val = 0 then t0 (ptT (rowAt (fi (ptS 0 g (x 1)))) (x 2))
  else if (x 0).val = 1 then t1 (ptT (rowAt (fi (ptS 1 g (x 1)))) (x 2))
  else t2 (ptT (rowAt (fi (ptS 2 g (x 1)))) (x 2))

/-- The row number that entry `k` of list `g` of table `a` holds. -/
theorem rows_list (a : Fin 3) (g : Fin 50) (o : Fin 3 → ℕ) (h) (ho : o = ![a.val, g.val, 0]) (fi : S3x50x128.Idx → BitVec 32)
    (hin : ∀ x, ((listV o h).view.read (Elt F) fi x).toNat < S1024x128.size gathers_S1024x128_S128x128.axis) (k : Fin 128) :
    SparseCore.rows (F := F) ((listV o h).view.read (Elt F) fi) (rfl : S128.numel = S128x128.size gathers_S1024x128_S128x128.axis') hin k
      = rowAt (fi (ptS a g k)) := by
  have hz : S128.rowMajor.symm k = (fun i => match i with | 0 => k : S128.Idx) := by
    refine (Equiv.symm_apply_eq _).mpr (Fin.ext ?_)
    rw [Shape.rowMajor_val_one]
  have hr : (listV o h).view.read (Elt F) fi (S128.rowMajor.symm k) = fi (ptS a g k) := by
    rw [hz, View.read_apply, emb_list a g o h ho]
    rfl
  refine Fin.ext ?_
  show ((listV o h).view.read (Elt F) fi (S128.rowMajor.symm k)).toNat = (fi (ptS a g k)).toNat % 1024
  have hlt : ((listV o h).view.read (Elt F) fi (S128.rowMajor.symm k)).toNat < 1024 := hin _
  rw [hr] at hlt ⊢
  exact (Nat.mod_eq_of_lt hlt).symm

/-- What a gather of list `g` of table `a` leaves in slab `a`: entry by entry, the row that the entry names. -/
theorem gathered_apply (d : Dev nD) (L : grid0.Coords) (a : Fin 3) (g : Fin 50) (o o' : Fin 3 → ℕ) (h h') (ho : o = ![a.val, 0, 0]) (ho' : o' = ![a.val, g.val, 0])
    (src : Memref sig .scVector .hbm S1024x128 .f32) (t : Buf (Elt F) (src.view.loc (V d (cV L) (jV L))))
    (t' : S1024x128.Idx → Elt F .f32) (hsrc : ∀ y, src.view.read (Elt F) t y = t' y)
    (fd : S3x128x128.Idx → Elt F .f32) (fi : S3x50x128.Idx → BitVec 32)
    (hin : ∀ x, ((listV o' h').view.read (Elt F) fi x).toNat < S1024x128.size gathers_S1024x128_S128x128.axis)
    (x : S3x128x128.Idx) (hx : x ∈ (slabV o h).view.set) :
    (Cert.GatherBatch.gathered (V d (cV L) (jV L)) src (slabV o h) gathers_S1024x128_S128x128 (listV o' h') rfl t fd fi hin : S3x128x128.Idx → Elt F .f32) x
      = t' (ptT (rowAt (fi (ptS a g (x 1)))) (x 2)) := by
  obtain ⟨y, rfl⟩ := (mem_view_set (slabV o h).view x).mp hx
  refine (View.write_emb_of_mem (v := (slabV o h).view) fd _ (Finset.mem_univ y)).trans ?_
  refine (cast_eq _ _).trans ((hsrc _).trans (congrArg t' ?_))
  have e : (slabV o h).view.emb y = pt3 a (y 0) (y 1) := emb_slab a o h ho y
  rw [e]
  have hr := rows_list (F := F) a g o' h' ho' fi hin (y 0)
  funext i
  match i with
  | 0 =>
    exact (Shape.Gathers.idx_axis gathers_S1024x128_S128x128 _ y).trans hr
  | 1 =>
    unfold Shape.Gathers.idx
    rfl

end Cert.Proof.KernelIdeal

end
-- ==== Proof.KernelIdealTrip.lean ====
/- One trip of a tile's loop: three lists' rows gathered at once, summed, and written out.

   The three gathers are in flight together on one semaphore; they are one batch of 384 row transfers of equal credit
   (`GatherBatch`). What the trip computes is carried as functions: the slabs (`slabs`), their sum (`sumUpTo`), and the
   part of the result written so far (`outUpTo`). -/
module

public import proofs.«01_k».proof.Proof.KernelIdealViews

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.GatherBatch

variable {F : FTy → Type}

local notation "𝕄" => MT nD τ sig (HIx 1) (Elt F) ℕ UU ℕ

/-! ## The units a row and a slab are worth -/

theorem credit_row (o : Fin 3 → ℕ) (h) (i) :
    ((slabV o h).slice (S128x128.rowRect gathers_S1024x128_S128x128.axis' i) (S128x128.stride_rowRect gathers_S1024x128_S128x128.axis' i)).view.dmaCredit = 4096 := by
  show RefSig.bitCredit (S128x128.rowShape gathers_S1024x128_S128x128.axis') EltTy.f32 = _
  decide +kernel

theorem credit_slab (o : Fin 3 → ℕ) (h) : (slabV o h).view.dmaCredit = 128 * 4096 := by
  show RefSig.bitCredit _ _ = _
  decide +kernel

theorem credit_block (o : Fin 2 → ℕ) (h) : (blockV o h).view.dmaCredit = 128 * 4096 := by
  show RefSig.bitCredit _ _ = _
  decide +kernel

/-! ## The buffers in their parts -/

section Parts

variable (d : Dev nD) (L : grid0.Coords)

/-- The slabs' places: every place of the buffer lies in exactly one of the three. -/
theorem slabs_split (f : S3x128x128.Idx → Elt F .f32) :
    ((bV).view.loc (V d (cV L) (jV L)) ↦{fullShare} f : sProp 𝕄)
      = iprop(((slabV ![0, 0, 0] inb_S3x128x128_S1x128x128_0_0_0).view.loc (V d (cV L) (jV L)) ↦[(slabV ![0, 0, 0] inb_S3x128x128_S1x128x128_0_0_0).view.set]{fullShare} f)
        ∗ ((slabV ![1, 0, 0] inb_S3x128x128_S1x128x128_1_0_0).view.loc (V d (cV L) (jV L)) ↦[(slabV ![1, 0, 0] inb_S3x128x128_S1x128x128_1_0_0).view.set]{fullShare} f)
        ∗ ((slabV ![2, 0, 0] inb_S3x128x128_S1x128x128_2_0_0).view.loc (V d (cV L) (jV L)) ↦[(slabV ![2, 0, 0] inb_S3x128x128_S1x128x128_2_0_0).view.set]{fullShare} f)) := by
  have e0 : ∀ x : S3x128x128.Idx, x ∈ (slabV ![0, 0, 0] inb_S3x128x128_S1x128x128_0_0_0).view.set ↔ x 0 = (0 : Fin 3) := mem_slab 0 _ _ rfl
  have e1 : ∀ x : S3x128x128.Idx, x ∈ (slabV ![1, 0, 0] inb_S3x128x128_S1x128x128_1_0_0).view.set ↔ x 0 = (1 : Fin 3) := mem_slab 1 _ _ rfl
  have e2 : ∀ x : S3x128x128.Idx, x ∈ (slabV ![2, 0, 0] inb_S3x128x128_S1x128x128_2_0_0).view.set ↔ x 0 = (2 : Fin 3) := mem_slab 2 _ _ rfl
  have hu : (Finset.univ : Finset S3x128x128.Idx)
      = (slabV ![0, 0, 0] inb_S3x128x128_S1x128x128_0_0_0).view.set ∪ ((slabV ![1, 0, 0] inb_S3x128x128_S1x128x128_1_0_0).view.set
        ∪ (slabV ![2, 0, 0] inb_S3x128x128_S1x128x128_2_0_0).view.set) := by
    ext x
    simp only [Finset.mem_univ, true_iff]
    refine Finset.mem_union.mpr ?_
    have hx : (x 0).val < 3 := (x 0).isLt
    rcases (show (x 0).val = 0 ∨ (x 0).val = 1 ∨ (x 0).val = 2 by omega) with h | h | h
    · exact .inl ((e0 x).mpr (Fin.ext h))
    · exact .inr (Finset.mem_union.mpr (.inl ((e1 x).mpr (Fin.ext h))))
    · exact .inr (Finset.mem_union.mpr (.inr ((e2 x).mpr (Fin.ext h))))
  have h12 : Disjoint (slabV ![1, 0, 0] inb_S3x128x128_S1x128x128_1_0_0).view.set (slabV ![2, 0, 0] inb_S3x128x128_S1x128x128_2_0_0).view.set :=
    Finset.disjoint_left.mpr fun x h h' => absurd (((e2 x).mp h').symm.trans ((e1 x).mp h)) (show (2 : Fin 3) ≠ 1 by decide)
  have h0 : Disjoint (slabV ![0, 0, 0] inb_S3x128x128_S1x128x128_0_0_0).view.set ((slabV ![1, 0, 0] inb_S3x128x128_S1x128x128_1_0_0).view.set
        ∪ (slabV ![2, 0, 0] inb_S3x128x128_S1x128x128_2_0_0).view.set) :=
    Finset.disjoint_left.mpr fun x h h' => by
      rcases Finset.mem_union.mp h' with h' | h'
      · exact absurd (((e1 x).mp h').symm.trans ((e0 x).mp h)) (show (1 : Fin 3) ≠ 0 by decide)
      · exact absurd (((e2 x).mp h').symm.trans ((e0 x).mp h)) (show (2 : Fin 3) ≠ 0 by decide)
  have u1 := fun ℓ (f : Buf (Elt F) ℓ) I J (h : Disjoint I J) => BI.Entails.antisymm (pointsTo_union (ℓ := ℓ) (q := fullShare) (f := f) h : _ ⊣⊢ (_ : sProp 𝕄)).1 (pointsTo_union (ℓ := ℓ) (q := fullShare) (f := f) h).2
  refine (show ((bV).view.loc (V d (cV L) (jV L)) ↦{fullShare} f : sProp 𝕄) = ((bV).view.loc (V d (cV L) (jV L)) ↦[(Finset.univ : Finset S3x128x128.Idx)]{fullShare} f) from rfl).trans ?_
  rw [hu]
  refine (u1 ((bV).view.loc (V d (cV L) (jV L))) f _ _ h0).trans ?_
  exact congrArg (fun X => iprop(_ ∗ X)) (u1 ((bV).view.loc (V d (cV L) (jV L))) f _ _ h12)

/-- The three lists of one trip, taken out of the tile's copy and put back. -/
theorem lists_take (g : Fin k0_t1_loop.trips) (f : S3x50x128.Idx → BitVec 32) :
    ((sV).view.loc (V d (cV L) (jV L)) ↦{fullShare} f : sProp 𝕄)
      ⊢ iprop((((listV (k0_off2 g) (k0_off2_inb g)).view.loc (V d (cV L) (jV L)) ↦[(listV (k0_off2 g) (k0_off2_inb g)).view.set]{fullShare} f)
          ∗ ((listV (k0_off3 g) (k0_off3_inb g)).view.loc (V d (cV L) (jV L)) ↦[(listV (k0_off3 g) (k0_off3_inb g)).view.set]{fullShare} f)
          ∗ ((listV (k0_off4 g) (k0_off4_inb g)).view.loc (V d (cV L) (jV L)) ↦[(listV (k0_off4 g) (k0_off4_inb g)).view.set]{fullShare} f))
        ∗ ((((listV (k0_off2 g) (k0_off2_inb g)).view.loc (V d (cV L) (jV L)) ↦[(listV (k0_off2 g) (k0_off2_inb g)).view.set]{fullShare} f)
          ∗ ((listV (k0_off3 g) (k0_off3_inb g)).view.loc (V d (cV L) (jV L)) ↦[(listV (k0_off3 g) (k0_off3_inb g)).view.set]{fullShare} f)
          ∗ ((listV (k0_off4 g) (k0_off4_inb g)).view.loc (V d (cV L) (jV L)) ↦[(listV (k0_off4 g) (k0_off4_inb g)).view.set]{fullShare} f))
          -∗ ((sV).view.loc (V d (cV L) (jV L)) ↦{fullShare} f))) := by
  have hg : g.val < 50 := lt_of_lt_of_le g.isLt k0_t1_abs.2.1
  have e0 : ∀ x : S3x50x128.Idx, x ∈ (listV (k0_off2 g) (k0_off2_inb g)).view.set ↔ _ := mem_list 0 ⟨g.val, hg⟩ _ _ (k0_off2_eq g)
  have e1 : ∀ x : S3x50x128.Idx, x ∈ (listV (k0_off3 g) (k0_off3_inb g)).view.set ↔ _ := mem_list 1 ⟨g.val, hg⟩ _ _ (k0_off3_eq g)
  have e2 : ∀ x : S3x50x128.Idx, x ∈ (listV (k0_off4 g) (k0_off4_inb g)).view.set ↔ _ := mem_list 2 ⟨g.val, hg⟩ _ _ (k0_off4_eq g)
  have h1 : (listV (k0_off3 g) (k0_off3_inb g)).view.set ⊆ (Finset.univ : Finset S3x50x128.Idx) \ (listV (k0_off2 g) (k0_off2_inb g)).view.set := fun x h =>
    Finset.mem_sdiff.mpr ⟨Finset.mem_univ _, fun h' => absurd (((e1 x).mp h).1.symm.trans ((e0 x).mp h').1) (show (1 : Fin 3) ≠ 0 by decide)⟩
  have h2 : (listV (k0_off4 g) (k0_off4_inb g)).view.set ⊆ ((Finset.univ : Finset S3x50x128.Idx) \ (listV (k0_off2 g) (k0_off2_inb g)).view.set) \ (listV (k0_off3 g) (k0_off3_inb g)).view.set := fun x h =>
    Finset.mem_sdiff.mpr ⟨Finset.mem_sdiff.mpr ⟨Finset.mem_univ _, fun h' => absurd (((e2 x).mp h).1.symm.trans ((e0 x).mp h').1) (show (2 : Fin 3) ≠ 0 by decide)⟩,
      fun h' => absurd (((e2 x).mp h).1.symm.trans ((e1 x).mp h').1) (show (2 : Fin 3) ≠ 1 by decide)⟩
  iintro H
  ihave H := (pointsTo_split_subset (ℓ := (sV).view.loc (V d (cV L) (jV L))) (f := f) (q := fullShare) (Finset.subset_univ (listV (k0_off2 g) (k0_off2_inb g)).view.set)).1 $$ H
  icases H with ⟨H0, H⟩
  ihave H := (pointsTo_split_subset (ℓ := (sV).view.loc (V d (cV L) (jV L))) (f := f) (q := fullShare) h1).1 $$ H
  icases H with ⟨H1, H⟩
  ihave H := (pointsTo_split_subset (ℓ := (sV).view.loc (V d (cV L) (jV L))) (f := f) (q := fullShare) h2).1 $$ H
  icases H with ⟨H2, Hr⟩
  isplitl [H0 H1 H2]
  · isplitl [H0]; · iexact H0
    isplitl [H1] <;> iassumption
  iintro ⟨H0, H1, H2⟩
  ihave H := (pointsTo_split_subset (ℓ := (sV).view.loc (V d (cV L) (jV L))) (f := f) (q := fullShare) h2).2 $$ [H2 Hr]
  · isplitl [H2] <;> iassumption
  ihave H := (pointsTo_split_subset (ℓ := (sV).view.loc (V d (cV L) (jV L))) (f := f) (q := fullShare) h1).2 $$ [H1 H]
  · isplitl [H1] <;> iassumption
  ihave H := (pointsTo_split_subset (ℓ := (sV).view.loc (V d (cV L) (jV L))) (f := f) (q := fullShare) (Finset.subset_univ (listV (k0_off2 g) (k0_off2_inb g)).view.set)).2 $$ [H0 H]
  · isplitl [H0] <;> iassumption
  iexact H

end Parts

/-- The gathers' slice of a table is all of it. -/
theorem set_all (t : Memref sig .scVector .hbm S1024x128 .f32) : (allV t).view.set = t.view.set := by
  have hr : (Rect.unit (s := S1024x128) ![0, 0] S1024x128.size inb_S1024x128_S1024x128_0_0).set = Finset.univ :=
    Finset.eq_univ_iff_forall.mpr fun x => Rect.mem_set_unit.mpr fun a => by
      match a with
      | 0 => exact ⟨Nat.zero_le _, show (x 0).val < 0 + 1024 from by rw [Nat.zero_add]; exact (x 0).isLt⟩
      | 1 => exact ⟨Nat.zero_le _, show (x 1).val < 0 + 128 from by rw [Nat.zero_add]; exact (x 1).isLt⟩
  refine (View.set_slice t.view _).trans ?_
  rw [hr]
  rfl

section Gathers

variable [FloatOps F] (d : Dev nD) (L : grid0.Coords)

/-- A list's words are row numbers of a table when the tile's whole copy holds row numbers. -/
theorem list_inb (fi : S3x50x128.Idx → BitVec 32) (hfi : ∀ x, (fi x).toNat < 1024) (o : Fin 3 → ℕ) (h) (x : S128.Idx) :
    ((listV o h).view.read (Elt F) fi x).toNat < S1024x128.size gathers_S1024x128_S128x128.axis := by
  rw [View.read_apply]
  exact hfi _

/-- What the gathers read of table 0 is what it holds. -/
theorem read_0 (t : S1024x128.Idx → Elt F .f32) (y : S1024x128.Idx) :
    (allV t0V).view.read (Elt F) (show Buf (Elt F) ((t0V).view.loc (V d (cV L) (jV L))) from t) y = t y := by
  refine (View.read_apply _ _).trans ((cast_eq _ _).trans (congrArg t (emb_all y)))

/-- What the gathers read of table 1 is what it holds. -/
theorem read_1 (t : S1024x128.Idx → Elt F .f32) (y : S1024x128.Idx) :
    (allV t1V).view.read (Elt F) (show Buf (Elt F) ((t1V).view.loc (V d (cV L) (jV L))) from t) y = t y := by
  refine (View.read_apply _ _).trans ((cast_eq _ _).trans (congrArg t (emb_all y)))

/-- What the gathers read of table 2 is what it holds. -/
theorem read_2 (t : S1024x128.Idx → Elt F .f32) (y : S1024x128.Idx) :
    (allV t2V).view.read (Elt F) (show Buf (Elt F) ((t2V).view.loc (V d (cV L) (jV L))) from t) y = t y := by
  refine (View.read_apply _ _).trans ((cast_eq _ _).trans (congrArg t (emb_all y)))

/-- Slab 0 of the three gathered slabs. -/
theorem slabs_0 (fi : S3x50x128.Idx → BitVec 32) (t0 t1 t2 : S1024x128.Idx → Elt F .f32) (g : Fin 50) (x : S3x128x128.Idx) (hx : x 0 = (0 : Fin 3)) :
    slabs fi t0 t1 t2 g x = t0 (ptT (rowAt (fi (ptS 0 g (x 1)))) (x 2)) :=
  if_pos (by rw [hx]; rfl)

/-- Slab 1 of the three gathered slabs. -/
theorem slabs_1 (fi : S3x50x128.Idx → BitVec 32) (t0 t1 t2 : S1024x128.Idx → Elt F .f32) (g : Fin 50) (x : S3x128x128.Idx) (hx : x 0 = (1 : Fin 3)) :
    slabs fi t0 t1 t2 g x = t1 (ptT (rowAt (fi (ptS 1 g (x 1)))) (x 2)) :=
  (if_neg (by rw [hx]; decide)).trans (if_pos (by rw [hx]; rfl))

/-- Slab 2 of the three gathered slabs. -/
theorem slabs_2 (fi : S3x50x128.Idx → BitVec 32) (t0 t1 t2 : S1024x128.Idx → Elt F .f32) (g : Fin 50) (x : S3x128x128.Idx) (hx : x 0 = (2 : Fin 3)) :
    slabs fi t0 t1 t2 g x = t2 (ptT (rowAt (fi (ptS 2 g (x 1)))) (x 2)) :=
  (if_neg (by rw [hx]; decide)).trans (if_neg (by rw [hx]; decide))

theorem slab_pos : 0 < S128x128.numel := by decide

/-- What the rows of one gather hand back as they land. -/
def slabRows (t : Memref sig .scVector .hbm S1024x128 .f32) (ft : Buf (Elt F) (t.view.loc (V d (cV L) (jV L)))) (o : Fin 3 → ℕ) (h : ∀ i, o i + S1x128x128.size i ≤ S3x128x128.size i)
    (o' : Fin 3 → ℕ) (h' : ∀ i, o' i + S1x1x128.size i ≤ S3x50x128.size i)
    (q : PosShare TreeShare) (fb : S3x128x128.Idx → Elt F .f32) (fi : S3x50x128.Idx → BitVec 32) (hfi : ∀ x, (fi x).toNat < 1024) : Fin 128 → sProp 𝕄 :=
  rowBack (Name := ℕ) (U := UU) (Lvl := ℕ) (Ix := HIx 1) (F := F) (V d (cV L) (jV L)) (allV t) (slabV o h)
    gathers_S1024x128_S128x128 (listV o' h') rfl slab_pos q fullShare ft fb fi (list_inb fi hfi _ _)

instance slabRows_storable (t : Memref sig .scVector .hbm S1024x128 .f32) (ft : Buf (Elt F) (t.view.loc (V d (cV L) (jV L)))) (o : Fin 3 → ℕ) (h : ∀ i, o i + S1x128x128.size i ≤ S3x128x128.size i)
    (o' : Fin 3 → ℕ) (h' : ∀ i, o' i + S1x1x128.size i ≤ S3x50x128.size i)
    (q : PosShare TreeShare) (fb : S3x128x128.Idx → Elt F .f32) (fi : S3x50x128.Idx → BitVec 32) (hfi : ∀ x, (fi x).toNat < 1024) (i : Fin 128) :
    BI.Storable (upEmb : UEmb _ 𝕄) (slabRows d L t ft o h o' h' q fb fi hfi i) :=
  rowBack_storable (Name := ℕ) (U := UU) (Lvl := ℕ) (Ix := HIx 1) (F := F) (V d (cV L) (jV L)) (allV t) (slabV o h)
    gathers_S1024x128_S128x128 (listV o' h') rfl slab_pos q fullShare ft fb fi (list_inb fi hfi _ _) i

/-- One gather of the trip, issued into the batch of the three gathers' rows. -/
theorem wp_slab {α : Type} (t : Memref sig .scVector .hbm S1024x128 .f32) (ft : Buf (Elt F) (t.view.loc (V d (cV L) (jV L)))) (o : Fin 3 → ℕ) (h : ∀ i, o i + S1x128x128.size i ≤ S3x128x128.size i)
    (o' : Fin 3 → ℕ) (h' : ∀ i, o' i + S1x1x128.size i ≤ S3x50x128.size i)
    (q : PosShare TreeShare) (fb : S3x128x128.Idx → Elt F .f32) (fi : S3x50x128.Idx → BitVec 32) (hfi : ∀ x, (fi x).toNat < 1024)
    {w : (allV t).view.WordExact} (D : Fin (128 + 128 + 128) → sProp 𝕄) (j j' : ℕ) (hj' : j' = j + 128) (hj : j' ≤ 128 + 128 + 128)
    (hD : ∀ i : Fin 128, slabRows d L t ft o h o' h' q fb fi hfi i ⊢ D ⟨j + i.val, by omega⟩)
    (k : PUnit → Prog (TpuEff nD τ sig (Elt F) Λ₀ (V d (cV L) (jV L)).2) α) (Q : α → sProp 𝕄) :
    iprop(((allV t).view.loc (V d (cV L) (jV L)) ↦[(allV t).view.set]{q} ft) ∗ ((slabV o h).view.loc (V d (cV L) (jV L)) ↦[(slabV o h).view.set]{fullShare} fb)
        ∗ ((listV o' h').view.loc (V d (cV L) (jV L)) ↦[(listV o' h').view.set]{fullShare} fi)
        ∗ Transfers.Batch countersEmb (V d (cV L) (jV L)) (.dma cc0_scratch2.sem) (default : HIx 1) 4096 D j 0)
      ⊢ iprop((Transfers.Batch countersEmb (V d (cV L) (jV L)) (.dma cc0_scratch2.sem) (default : HIx 1) 4096 D j' 0
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather rfl (allV t) (slabV o h) gathers_S1024x128_S128x128 (listV o' h') rfl cc0_scratch2.sem w rfl (Or.inl rfl) >>= k) Q) :=
  wp_gather countersEmb 𝒱₀ (V d (cV L) (jV L)) none (defs := defs₀ (F := F)) (src := allV t) (dst := slabV o h) (hg := gathers_S1024x128_S128x128) (offs := listV o' h')
    (q := q) (qo := fullShare) (fs := ft) (fd := fb) (fo := fi) (n := 128 + 128 + 128) (D := D)
    (default : HIx 1) 4096 j j' 0 (credit_row o h) slab_pos (list_inb fi hfi o' h') hj' hj (Nat.zero_le _) hD

/-- All the rows of one gather are the slab, holding the rows that the list names, the list and the table's share. -/
theorem slabRows_join (a : Fin 3) (g : Fin 50) (t : Memref sig .scVector .hbm S1024x128 .f32) (ft : Buf (Elt F) (t.view.loc (V d (cV L) (jV L)))) (o : Fin 3 → ℕ) (h : ∀ i, o i + S1x128x128.size i ≤ S3x128x128.size i)
    (o' : Fin 3 → ℕ) (h' : ∀ i, o' i + S1x1x128.size i ≤ S3x50x128.size i) (ho : o = ![a.val, 0, 0]) (ho' : o' = ![a.val, g.val, 0])
    (q : PosShare TreeShare) (fb : S3x128x128.Idx → Elt F .f32) (fi : S3x50x128.Idx → BitVec 32) (hfi : ∀ x, (fi x).toNat < 1024)
    (t' : S1024x128.Idx → Elt F .f32) (hsrc : ∀ y, (allV t).view.read (Elt F) ft y = t' y)
    (f : S3x128x128.Idx → Elt F .f32) (hf : ∀ x : S3x128x128.Idx, x 0 = a → f x = t' (ptT (rowAt (fi (ptS a g (x 1)))) (x 2))) :
    (bigSep Finset.univ (slabRows d L t ft o h o' h' q fb fi hfi) : sProp 𝕄)
      ⊢ iprop(((slabV o h).view.loc (V d (cV L) (jV L)) ↦[(slabV o h).view.set]{fullShare} f)
        ∗ ((listV o' h').view.loc (V d (cV L) (jV L)) ↦[(listV o' h').view.set]{fullShare} fi)
        ∗ ((allV t).view.loc (V d (cV L) (jV L)) ↦[(allV t).view.set]{q} ft)) := by
  have e := rowBack_join (Name := ℕ) (U := UU) (Lvl := ℕ) (Ix := HIx 1) (F := F) (V d (cV L) (jV L)) (allV t) (slabV o h)
    gathers_S1024x128_S128x128 (listV o' h') rfl slab_pos q fullShare ft fb fi (list_inb fi hfi o' h')
  have c : ((slabV o h).view.loc (V d (cV L) (jV L)) ↦[(slabV o h).view.set]{fullShare} (gathered (V d (cV L) (jV L)) (allV t) (slabV o h) gathers_S1024x128_S128x128 (listV o' h') rfl ft fb fi (list_inb fi hfi o' h')) : sProp 𝕄)
      = ((slabV o h).view.loc (V d (cV L) (jV L)) ↦[(slabV o h).view.set]{fullShare} f) :=
    pointsTo_congr fun x hx => (gathered_apply d L a g o o' h h' ho ho' (allV t) ft t' hsrc fb fi (list_inb fi hfi o' h') x hx).trans
      (hf x ((mem_slab a o h ho x).mp hx)).symm
  rw [c] at e
  exact e

set_option maxHeartbeats 4000000 in
/-- The three gathers of one trip and their three waits: the three slabs end up holding the rows that the trip's lists
    name, the tables' shares and the lists are back, and the semaphore is at zero. -/
theorem wp_gathers {α : Type} (g : Fin k0_t1_loop.trips) (g' : Fin 50) (hg : g'.val = g.val) (q : PosShare TreeShare)
    (t0 t1 t2 : S1024x128.Idx → Elt F .f32) (fi : S3x50x128.Idx → BitVec 32) (hfi : ∀ x, (fi x).toNat < 1024)
    (fb : S3x128x128.Idx → Elt F .f32) (O : CellTallies nD τ sig (HIx 1)) (W : Waits sig (HIx 1))
    {w0 : (allV t0V).view.WordExact} {w1 : (allV t1V).view.WordExact} {w2 : (allV t2V).view.WordExact}
    {x0 : (slabV ![0, 0, 0] inb_S3x128x128_S1x128x128_0_0_0).view.WordExact}
    {x1 : (slabV ![1, 0, 0] inb_S3x128x128_S1x128x128_1_0_0).view.WordExact}
    {x2 : (slabV ![2, 0, 0] inb_S3x128x128_S1x128x128_2_0_0).view.WordExact}
    (k : PUnit → Prog (TpuEff nD τ sig (Elt F) Λ₀ (V d (cV L) (jV L)).2) α) (Q : α → sProp 𝕄) :
    iprop(((t0V).view.loc (V d (cV L) (jV L)) ↦{q} t0) ∗ ((t1V).view.loc (V d (cV L) (jV L)) ↦{q} t1) ∗ ((t2V).view.loc (V d (cV L) (jV L)) ↦{q} t2)
        ∗ ((sV).view.loc (V d (cV L) (jV L)) ↦{fullShare} fi) ∗ ((bV).view.loc (V d (cV L) (jV L)) ↦{fullShare} fb)
        ∗ semVal (V d (cV L) (jV L), .dma cc0_scratch2.sem) 0 ∗ Transfers.MayWaits (V d (cV L) (jV L)) (default : HIx 1) O
        ∗ owes (V d (cV L) (jV L)) O W)
      ⊢ iprop((((t0V).view.loc (V d (cV L) (jV L)) ↦{q} t0) ∗ ((t1V).view.loc (V d (cV L) (jV L)) ↦{q} t1) ∗ ((t2V).view.loc (V d (cV L) (jV L)) ↦{q} t2)
            ∗ ((sV).view.loc (V d (cV L) (jV L)) ↦{fullShare} fi) ∗ ((bV).view.loc (V d (cV L) (jV L)) ↦{fullShare} slabs fi t0 t1 t2 g')
            ∗ semVal (V d (cV L) (jV L), .dma cc0_scratch2.sem) 0
            ∗ owes (V d (cV L) (jV L)) O (insert (SemLoc.dma cc0_scratch2.sem, (default : HIx 1)) W)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
          (SparseCore.enqueueIndirectGather rfl (allV t0V) (slabV ![0, 0, 0] inb_S3x128x128_S1x128x128_0_0_0) gathers_S1024x128_S128x128
              (listV (k0_off2 g) (k0_off2_inb g)) rfl cc0_scratch2.sem w0 rfl (Or.inl rfl) >>= fun _ =>
            SparseCore.enqueueIndirectGather rfl (allV t1V) (slabV ![1, 0, 0] inb_S3x128x128_S1x128x128_1_0_0) gathers_S1024x128_S128x128
              (listV (k0_off3 g) (k0_off3_inb g)) rfl cc0_scratch2.sem w1 rfl (Or.inl rfl) >>= fun _ =>
            SparseCore.enqueueIndirectGather rfl (allV t2V) (slabV ![2, 0, 0] inb_S3x128x128_S1x128x128_2_0_0) gathers_S1024x128_S128x128
              (listV (k0_off4 g) (k0_off4_inb g)) rfl cc0_scratch2.sem w2 rfl (Or.inl rfl) >>= fun _ =>
            .op (.waitDma2 cc0_scratch2.sem (allV t0V) (slabV ![0, 0, 0] inb_S3x128x128_S1x128x128_0_0_0) w0 x0) fun _ =>
            .op (.waitDma2 cc0_scratch2.sem (allV t1V) (slabV ![1, 0, 0] inb_S3x128x128_S1x128x128_1_0_0) w1 x1) fun _ =>
            .op (.waitDma2 cc0_scratch2.sem (allV t2V) (slabV ![2, 0, 0] inb_S3x128x128_S1x128x128_2_0_0) w2 x2) k) Q) := by
  let R0 : Fin 128 → sProp 𝕄 := slabRows d L t0V t0 ![0, 0, 0] inb_S3x128x128_S1x128x128_0_0_0 (k0_off2 g) (k0_off2_inb g) q fb fi hfi
  let R1 : Fin 128 → sProp 𝕄 := slabRows d L t1V t1 ![1, 0, 0] inb_S3x128x128_S1x128x128_1_0_0 (k0_off3 g) (k0_off3_inb g) q fb fi hfi
  let R2 : Fin 128 → sProp 𝕄 := slabRows d L t2V t2 ![2, 0, 0] inb_S3x128x128_S1x128x128_2_0_0 (k0_off4 g) (k0_off4_inb g) q fb fi hfi
  have j0 := slabRows_join d L 0 g' t0V t0 ![0, 0, 0] inb_S3x128x128_S1x128x128_0_0_0 (k0_off2 g) (k0_off2_inb g) rfl (hg ▸ k0_off2_eq g) q fb fi hfi t0 (read_0 d L t0)
    (slabs fi t0 t1 t2 g') (slabs_0 fi t0 t1 t2 g')
  change bigSep Finset.univ R0 ⊢ _ at j0
  have j1 := slabRows_join d L 1 g' t1V t1 ![1, 0, 0] inb_S3x128x128_S1x128x128_1_0_0 (k0_off3 g) (k0_off3_inb g) rfl (hg ▸ k0_off3_eq g) q fb fi hfi t1 (read_1 d L t1)
    (slabs fi t0 t1 t2 g') (slabs_1 fi t0 t1 t2 g')
  change bigSep Finset.univ R1 ⊢ _ at j1
  have j2 := slabRows_join d L 2 g' t2V t2 ![2, 0, 0] inb_S3x128x128_S1x128x128_2_0_0 (k0_off4 g) (k0_off4_inb g) rfl (hg ▸ k0_off4_eq g) q fb fi hfi t2 (read_2 d L t2)
    (slabs fi t0 t1 t2 g') (slabs_2 fi t0 t1 t2 g')
  change bigSep Finset.univ R2 ⊢ _ at j2
  have a0 : (allV t0V).view.set = Finset.univ := (set_all _).trans (View.set_whole _)
  have a1 : (allV t1V).view.set = Finset.univ := (set_all _).trans (View.set_whole _)
  have a2 : (allV t2V).view.set = Finset.univ := (set_all _).trans (View.set_whole _)
  have T0 : ((t0V).view.loc (V d (cV L) (jV L)) ↦{q} t0 : sProp 𝕄) = ((allV t0V).view.loc (V d (cV L) (jV L)) ↦[(allV t0V).view.set]{q} t0) := by rw [a0]
  have T1 : ((t1V).view.loc (V d (cV L) (jV L)) ↦{q} t1 : sProp 𝕄) = ((allV t1V).view.loc (V d (cV L) (jV L)) ↦[(allV t1V).view.set]{q} t1) := by rw [a1]
  have T2 : ((t2V).view.loc (V d (cV L) (jV L)) ↦{q} t2 : sProp 𝕄) = ((allV t2V).view.loc (V d (cV L) (jV L)) ↦[(allV t2V).view.set]{q} t2) := by rw [a2]
  rw [T0, T1, T2, slabs_split d L fb, slabs_split d L (slabs fi t0 t1 t2 g')]
  iintro ⟨H0, H1, H2, Hi, ⟨Hb0, Hb1, Hb2⟩, Hsem, #Hmw, HO⟩ Hk
  ihave Hi := lists_take d L g fi $$ Hi
  icases Hi with ⟨⟨Hl0, Hl1, Hl2⟩, Hback⟩
  imod (Transfers.batch_alloc' countersEmb (c := V d (cV L) (jV L)) (sm := .dma cc0_scratch2.sem) (default : HIx 1) 4096 (threeRuns R0 R1 R2)) $$ Hsem with HB
  iapply (wp_slab d L t0V t0 _ _ _ _ q fb fi hfi (threeRuns R0 R1 R2) 0 128 rfl (by decide)
    (fun i => Entails.of_eq (threeRuns_first R0 R1 R2 i _).symm)) $$ [H0 Hb0 Hl0 HB]
  · isplitl [H0]; · iexact H0
    isplitl [Hb0]; · iexact Hb0
    isplitl [Hl0] <;> iassumption
  iintro HB
  iapply (wp_slab d L t1V t1 _ _ _ _ q fb fi hfi (threeRuns R0 R1 R2) 128 256 rfl (by decide)
    (fun i => Entails.of_eq (threeRuns_second R0 R1 R2 i _).symm)) $$ [H1 Hb1 Hl1 HB]
  · isplitl [H1]; · iexact H1
    isplitl [Hb1]; · iexact Hb1
    isplitl [Hl1] <;> iassumption
  iintro HB
  iapply (wp_slab d L t2V t2 _ _ _ _ q fb fi hfi (threeRuns R0 R1 R2) 256 384 rfl (by decide)
    (fun i => Entails.of_eq (threeRuns_third R0 R1 R2 i _).symm)) $$ [H2 Hb2 Hl2 HB]
  · isplitl [H2]; · iexact H2
    isplitl [Hb2]; · iexact Hb2
    isplitl [Hl2] <;> iassumption
  iintro HB
  iapply (Transfers.wp_waitBatchMulO countersEmb 𝒱₀ (V d (cV L) (jV L)) none (defs := defs₀ (F := F)) (default : HIx 1) (N := 4096) (D := threeRuns R0 R1 R2) (j := 384) (u := 0) 128 (credit_slab _ _) (by decide)) $$ [HB HO]
  · isplitl [HB]; · iexact HB
    isplitl [HO]; · iexact HO
    iapply (Transfers.MayWaits.elim (SemLoc.dma cc0_scratch2.sem)) $$ Hmw
  iintro ⟨HB, HO⟩
  iapply (Transfers.wp_waitBatchMulO countersEmb 𝒱₀ (V d (cV L) (jV L)) none (defs := defs₀ (F := F)) (default : HIx 1) (N := 4096) (D := threeRuns R0 R1 R2) (j := 384) (u := 0 + 128 * 4096) 128 (credit_slab _ _) (by decide)) $$ [HB HO]
  · isplitl [HB]; · iexact HB
    isplitl [HO]; · iexact HO
    iapply (Transfers.MayWaits.elim (SemLoc.dma cc0_scratch2.sem)) $$ Hmw
  iintro ⟨HB, HO⟩
  iapply (Transfers.wp_waitBatchAllO countersEmb 𝒱₀ (V d (cV L) (jV L)) none (defs := defs₀ (F := F)) (default : HIx 1) (N := 4096) (J := 128 * 4096) (D := threeRuns R0 R1 R2) (u := 0 + 128 * 4096 + 128 * 4096) (credit_slab _ _) (by decide) (by decide)) $$ [HB HO]
  · isplitl [HB]; · iexact HB
    isplitl [HO]; · iexact HO
    iapply (Transfers.MayWaits.elim (SemLoc.dma cc0_scratch2.sem)) $$ Hmw
  iintro ⟨HD, Hsem, HO⟩
  ihave HD := (Entails.of_eq (threeRuns_all R0 R1 R2)) $$ HD
  icases HD with ⟨HA, HB, HC⟩
  ihave HA := j0 $$ HA
  ihave HB := j1 $$ HB
  ihave HC := j2 $$ HC
  icases HA with ⟨Hb0, Hl0, H0⟩
  icases HB with ⟨Hb1, Hl1, H1⟩
  icases HC with ⟨Hb2, Hl2, H2⟩
  ihave Hi := Hback $$ [Hl0 Hl1 Hl2]
  · isplitl [Hl0]; · iexact Hl0
    isplitl [Hl1] <;> iassumption
  iapply Hk
  isplitl [H0]; · iexact H0
  isplitl [H1]; · iexact H1
  isplitl [H2]; · iexact H2
  isplitl [Hi]; · iexact Hi
  isplitl [Hb0 Hb1 Hb2]
  · isplitl [Hb0]; · iexact Hb0
    isplitl [Hb1] <;> iassumption
  isplitl [Hsem]; · iexact Hsem
  rw [Finset.insert_idem, Finset.insert_idem]
  iexact HO

end Gathers

end Cert.Proof.KernelIdeal

end
-- ==== Proof.KernelIdealTile.lean ====
/- One tile's task: fetch its lists, then fifty trips of gathering, summing and writing out.

   The loop's invariant says how much of the tile's part of the result is written (`outUpTo`); after fifty trips all of
   it is the embedding sum (`embedOut`). -/
module

public import proofs.«01_k».proof.Proof.KernelIdealTrip

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.GatherBatch

variable {F : FTy → Type}

local notation "𝕄" => MT nD τ sig (HIx 1) (Elt F) ℕ UU ℕ

/-! ## A tile's part of the result -/

/-- The tile's number: two to a subcore, one on each SparseCore. -/
def wid (L : grid0.Coords) : Fin 32 :=
  ⟨2 * (L 1).val + (L 0).val, by
    have h0 : (L 0).val < 2 := (L 0).isLt
    have h1 : (L 1).val < 16 := (L 1).isLt
    omega⟩

/-- Tile `w`'s 6400 rows of the result. -/
def oSet (w : Fin 32) : Finset S204800x128.Idx := Finset.univ.filter fun x => (x 0).val / 6400 = w.val

/-- The result with tile `w`'s first `128 * g` rows at `G`. -/
def outUpTo (w : Fin 32) (fo G : S204800x128.Idx → Elt F .f32) (g : ℕ) : S204800x128.Idx → Elt F .f32 := fun x =>
  if (x 0).val < 6400 * w.val + 128 * g then G x else fo x

/-- Before the first trip nothing is written. -/
theorem outUpTo_zero (w : Fin 32) (fo G : S204800x128.Idx → Elt F .f32) (x : S204800x128.Idx) (hx : x ∈ oSet w) : fo x = outUpTo w fo G 0 x := by
  have hx' : (x 0).val / 6400 = w.val := (Finset.mem_filter.mp hx).2
  exact (if_neg (by omega)).symm

/-- After fifty trips all is. -/
theorem outUpTo_fifty (w : Fin 32) (fo G : S204800x128.Idx → Elt F .f32) (x : S204800x128.Idx) (hx : x ∈ oSet w) : outUpTo w fo G 50 x = G x := by
  have hx' : (x 0).val / 6400 = w.val := (Finset.mem_filter.mp hx).2
  exact if_pos (by omega)

section Tile

variable [FloatOps F] (d : Dev nD) (L : grid0.Coords)

/-- A trip's block lies in the tile's rows. -/
theorem block_sub (g : Fin k0_t1_loop.trips) (h) : (blockV (k0_off29 L g) h).view.set ⊆ oSet (wid L) := by
  have hg : g.val < 50 := lt_of_lt_of_le g.isLt k0_t1_abs.2.1
  have h0 : (L 0).val < 2 := (L 0).isLt
  have h1 : (L 1).val < 16 := (L 1).isLt
  intro x hx
  have hx := (mem_block (12800 * (L 1).val + 6400 * (L 0).val + 128 * g.val) (by omega) _ h (k0_off29_eq L g) x).mp hx
  refine Finset.mem_filter.mpr ⟨Finset.mem_univ _, ?_⟩
  show (x 0).val / 6400 = 2 * (L 1).val + (L 0).val
  omega

/-- The sum of a trip's slabs, at the row and lane of a place of its block, is the result there. -/
theorem sum_block (g : Fin k0_t1_loop.trips) (g' : Fin 50) (hg : g'.val = g.val) (h)
    (idx : S32x3x50x128.Idx → BitVec 32) (t0 t1 t2 : S1024x128.Idx → Elt F .f32) (fi : S3x50x128.Idx → BitVec 32)
    (hfi : ∀ y, fi y = idx (ptI (wid L) (y 0) (y 1) (y 2))) (y : S128x128.Idx) :
    sumUpTo (slabs fi t0 t1 t2 g') (128 * 128) (pt3 0 (y 0) (y 1)) = embedOut idx t0 t1 t2 ((blockV (k0_off29 L g) h).view.emb y) := by
  have h0 : (L 0).val < 2 := (L 0).isLt
  have h1 : (L 1).val < 16 := (L 1).isLt
  have hy0 : (y 0).val < 128 := (y 0).isLt
  have hy1 : (y 1).val < 128 := (y 1).isLt
  have hg50 : g'.val < 50 := g'.isLt
  have hb := emb_block (12800 * (L 1).val + 6400 * (L 0).val + 128 * g.val) _ h (k0_off29_eq L g) y
    ⟨12800 * (L 1).val + 6400 * (L 0).val + 128 * g.val + (y 0).val, by omega⟩ rfl
  rw [hb, sumUpTo_of_lt _ _ _ ⟨rfl, show 128 * (y 0).val + (y 1).val < 128 * 128 by omega⟩]
  have at' (a : Fin 3) : idx (ptI
      ⟨(12800 * (L 1).val + 6400 * (L 0).val + 128 * g.val + (y 0).val) / 6400, by omega⟩ a
      ⟨(12800 * (L 1).val + 6400 * (L 0).val + 128 * g.val + (y 0).val) % 6400 / 128, by omega⟩
      ⟨(12800 * (L 1).val + 6400 * (L 0).val + 128 * g.val + (y 0).val) % 128, by omega⟩) = fi (ptS a g' (y 0)) := by
    rw [hfi]
    refine congrArg idx (funext fun i => ?_)
    match i with
    | 0 => exact Fin.ext (show _ / 6400 = 2 * (L 1).val + (L 0).val by omega)
    | 1 => rfl
    | 2 => exact Fin.ext (show _ % 6400 / 128 = g'.val by omega)
    | 3 => exact Fin.ext (show _ % 128 = (y 0).val by omega)
  show FloatOps.addf (FloatOps.addf (slabs fi t0 t1 t2 g' (pt3 0 (y 0) (y 1))) (slabs fi t0 t1 t2 g' (pt3 1 (y 0) (y 1)))) (slabs fi t0 t1 t2 g' (pt3 2 (y 0) (y 1)))
    = FloatOps.addf (FloatOps.addf (t0 (ptT (rowAt (idx _)) (y 1))) (t1 (ptT (rowAt (idx _)) (y 1)))) (t2 (ptT (rowAt (idx _)) (y 1)))
  rw [slabs_0 fi t0 t1 t2 g' _ rfl, slabs_1 fi t0 t1 t2 g' _ rfl, slabs_2 fi t0 t1 t2 g' _ rfl]
  exact congr (congrArg FloatOps.addf (congr (congrArg FloatOps.addf (congrArg (fun b => t0 (ptT (rowAt b) (y 1))) (at' 0).symm))
    (congrArg (fun b => t1 (ptT (rowAt b) (y 1))) (at' 1).symm))) (congrArg (fun b => t2 (ptT (rowAt b) (y 1))) (at' 2).symm)

/-- Writing the trip's block with the sum of its slabs is one more trip's rows of the result. -/
theorem write_block (g : Fin k0_t1_loop.trips) (h) (fo G : S204800x128.Idx → Elt F .f32) (pay : S128x128.Idx → Elt F .f32)
    (hpay : ∀ y, pay y = G ((blockV (k0_off29 L g) h).view.emb y)) (x : S204800x128.Idx) (hx : x ∈ oSet (wid L)) :
    (blockV (k0_off29 L g) h).view.write (Elt F) (outUpTo (wid L) fo G g.val) pay Finset.univ x = outUpTo (wid L) fo G (g.val + 1) x := by
  have hg : g.val < 50 := lt_of_lt_of_le g.isLt k0_t1_abs.2.1
  have h0 : (L 0).val < 2 := (L 0).isLt
  have h1 : (L 1).val < 16 := (L 1).isLt
  have hw : (wid L).val = 2 * (L 1).val + (L 0).val := rfl
  have hx' : (x 0).val / 6400 = (wid L).val := (Finset.mem_filter.mp hx).2
  have hm := mem_block (12800 * (L 1).val + 6400 * (L 0).val + 128 * g.val) (by omega) _ h (k0_off29_eq L g) x
  by_cases hb : x ∈ (blockV (k0_off29 L g) h).view.set
  · obtain ⟨y, rfl⟩ := (mem_view_set (blockV (k0_off29 L g) h).view x).mp hb
    refine (View.write_emb_of_mem (v := (blockV (k0_off29 L g) h).view) _ _ (Finset.mem_univ y)).trans ?_
    refine (cast_eq _ _).trans ((hpay y).trans ?_)
    have := hm.mp hb
    exact (if_pos (by omega)).symm
  · refine (View.write_of_not_mem (v := (blockV (k0_off29 L g) h).view) _ _ _ hb).trans ?_
    have hn : ¬(12800 * (L 1).val + 6400 * (L 0).val + 128 * g.val ≤ (x 0).val ∧ (x 0).val < 12800 * (L 1).val + 6400 * (L 0).val + 128 * g.val + 128) :=
      fun h' => hb (hm.mpr h')
    unfold outUpTo
    by_cases hlt : (x 0).val < 6400 * (wid L).val + 128 * g.val
    · rw [if_pos hlt, if_pos (by omega)]
    · rw [if_neg hlt, if_neg (by omega)]

/-- A wait on the tile's own signals keeps the list to those. -/
theorem waits_grow {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

/-! ## One trip -/

/-- What the tile holds before trip `g`. -/
def tripInv (q : PosShare TreeShare) (t0 t1 t2 : S1024x128.Idx → Elt F .f32) (fi : S3x50x128.Idx → BitVec 32) (fo G : S204800x128.Idx → Elt F .f32)
    (O : CellTallies nD τ sig (HIx 1)) (W : Waits sig (HIx 1)) (g : ℕ) : sProp 𝕄 :=
  iprop(((t0V).view.loc (V d (cV L) (jV L)) ↦{q} t0) ∗ ((t1V).view.loc (V d (cV L) (jV L)) ↦{q} t1) ∗ ((t2V).view.loc (V d (cV L) (jV L)) ↦{q} t2)
    ∗ ((sV).view.loc (V d (cV L) (jV L)) ↦{fullShare} fi) ∗ (∃ fb : S3x128x128.Idx → Elt F .f32, (bV).view.loc (V d (cV L) (jV L)) ↦{fullShare} fb)
    ∗ ((oV).view.loc (V d (cV L) (jV L)) ↦[oSet (wid L)]{fullShare} outUpTo (wid L) fo G g)
    ∗ semVal (V d (cV L) (jV L), .dma cc0_scratch2.sem) 0 ∗ semVal (V d (cV L) (jV L), .dma cc0_scoped1.sem) 0
    ∗ Transfers.MayWaits (V d (cV L) (jV L)) (default : HIx 1) O
    ∗ ∃ W', ⌜∀ p ∈ W', p ∈ W ∨ p.2 = none⌝ ∗ owes (V d (cV L) (jV L)) O W')

set_option maxHeartbeats 4000000 in
/-- One trip: the lists' rows gathered, summed and written out. -/
theorem trip_step (q : PosShare TreeShare) (idx : S32x3x50x128.Idx → BitVec 32) (t0 t1 t2 : S1024x128.Idx → Elt F .f32) (fi : S3x50x128.Idx → BitVec 32)
    (hfi : ∀ y, fi y = idx (ptI (wid L) (y 0) (y 1) (y 2))) (hlt : ∀ x, (fi x).toNat < 1024) (fo : S204800x128.Idx → Elt F .f32)
    (O : CellTallies nD τ sig (HIx 1)) (W : Waits sig (HIx 1)) (g : Fin k0_t1_loop.trips) :
    tripInv d L q t0 t1 t2 fi fo (embedOut idx t0 t1 t2) O W g.val
      ⊢ wp frame (wpE (defs₀ (F := F)) 𝒱₀ (V d (cV L) (jV L)) none) Set.univ
          (k0_t1_body L t0V (Memref.isWhole_whole _) t1V (Memref.isWhole_whole _) t2V (Memref.isWhole_whole _) iV (Memref.isWhole_whole _)
            oV (Memref.isWhole_whole _) sV (Memref.isWhole_whole _) bV (Memref.isWhole_whole _) cc0_scratch2 cc0_scoped0 cc0_scoped1 g ())
          fun _ => tripInv d L q t0 t1 t2 fi fo (embedOut idx t0 t1 t2) O W (g.val + 1) := by
  have hg : g.val < 50 := lt_of_lt_of_le g.isLt k0_t1_abs.2.1
  unfold k0_t1_body
  simp only [k0_part4_eq_skeleton]
  unfold k0_part4_skel
  simp only [SparseCore.waitIndirectGather, Prog.lift, Prog.bind_assoc, Prog.bind_op, Prog.bind_ret, pure_bind]
  unfold tripInv
  iintro ⟨H0, H1, H2, Hi, ⟨%fb, Hb⟩, Ho, Hsem, Hsem', #Hmw, %W', %hW', HO⟩
  iapply (wp_gathers d L g ⟨g.val, hg⟩ rfl q t0 t1 t2 fi hlt fb O W') $$ [H0 H1 H2 Hi Hb Hsem HO]
  · isplitl [H0]; · iexact H0
    isplitl [H1]; · iexact H1
    isplitl [H2]; · iexact H2
    isplitl [Hi]; · iexact Hi
    isplitl [Hb]; · iexact Hb
    isplitl [Hsem]; · iexact Hsem
    isplitr [HO]; · iexact Hmw
    iexact HO
  iintro ⟨H0, H1, H2, Hi, Hb, Hsem, HO⟩
  iapply (wp_sum d L (slabs fi t0 t1 t2 ⟨g.val, hg⟩)) $$ Hb
  iintro Hb
  ihave Hb := (Entails.of_eq (slabs_split d L (sumUpTo (slabs fi t0 t1 t2 ⟨g.val, hg⟩) (128 * 128)))) $$ Hb
  icases Hb with ⟨Hb0, Hb1, Hb2⟩
  iapply (Transfers.wp_dmaLocal countersEmb 𝒱₀ (V d (cV L) (jV L)) none (defs := defs₀ (F := F)) (Sd := oSet (wid L)) (fd := outUpTo (wid L) fo (embedOut idx t0 t1 t2) g.val)
    (src := slabV ![0, 0, 0] inb_S3x128x128_S1x128x128_0_0_0) (dst := blockV (k0_off29 L g) (k0_off29_inb L g)) (sm := .dma cc0_scoped1.sem)
    (fs := sumUpTo (slabs fi t0 t1 t2 ⟨g.val, hg⟩) (128 * 128)) (q := fullShare)
    (default : HIx 1) (128 * 4096) (credit_block _ _) (by decide) (block_sub L g _)) $$ [Hb0 Ho Hsem']
  · isplitl [Hb0]; · iexact Hb0
    isplitl [Ho] <;> iassumption
  iintro Hfl
  iapply (Transfers.wp_waitLocalO countersEmb 𝒱₀ (V d (cV L) (jV L)) none (defs := defs₀ (F := F)) (default : HIx 1) (N := 128 * 4096) (credit_block _ _)) $$ [Hfl HO]
  · isplitl [Hfl]; · iexact Hfl
    isplitl [HO]; · iexact HO
    iapply (Transfers.MayWaits.elim (SemLoc.dma cc0_scoped1.sem)) $$ Hmw
  iintro ⟨⟨Ho, Hb0⟩, Hsem', HO⟩
  ihave Hb := (Entails.of_eq (slabs_split d L (sumUpTo (slabs fi t0 t1 t2 ⟨g.val, hg⟩) (128 * 128))).symm) $$ [Hb0 Hb1 Hb2]
  · isplitl [Hb0]; · iexact Hb0
    isplitl [Hb1] <;> iassumption
  have hpay : ∀ y : S128x128.Idx, (slabV ![0, 0, 0] inb_S3x128x128_S1x128x128_0_0_0).view.read (Elt F) (sumUpTo (slabs fi t0 t1 t2 ⟨g.val, hg⟩) (128 * 128)) y
      = embedOut idx t0 t1 t2 ((blockV (k0_off29 L g) (k0_off29_inb L g)).view.emb y) := fun y =>
    ((View.read_apply _ _).trans (cast_eq _ _)).trans ((congrArg _ (emb_slab 0 _ _ rfl y)).trans
      (sum_block L g ⟨g.val, hg⟩ rfl (k0_off29_inb L g) idx t0 t1 t2 fi hfi y))
  ihave Ho := (Entails.of_eq (pointsTo_congr (ℓ := (oV).view.loc (V d (cV L) (jV L))) (q := fullShare) (I := oSet (wid L))
    (write_block L g (k0_off29_inb L g) fo (embedOut idx t0 t1 t2) _ hpay))) $$ Ho
  sl_step
  isplitl [H0]; · iexact H0
  isplitl [H1]; · iexact H1
  isplitl [H2]; · iexact H2
  isplitl [Hi]; · iexact Hi
  isplitl [Hb]
  · iexists (sumUpTo (slabs fi t0 t1 t2 ⟨g.val, hg⟩) (128 * 128))
    iexact Hb
  isplitl [Ho]; · iexact Ho
  isplitl [Hsem]; · iexact Hsem
  isplitl [Hsem']; · iexact Hsem'
  isplitr [HO]; · iexact Hmw
  iexists _
  isplitr
  rotate_left; · iexact HO
  ipureintro
  exact waits_grow (waits_grow hW')

/-- There are fifty trips. -/
theorem trips_blocks : k0_t1_loop.trips = 50 := by decide +kernel

/-- The fifty trips. -/
theorem wp_trips {α : Type} (q : PosShare TreeShare) (idx : S32x3x50x128.Idx → BitVec 32) (t0 t1 t2 : S1024x128.Idx → Elt F .f32) (fi : S3x50x128.Idx → BitVec 32)
    (hfi : ∀ y, fi y = idx (ptI (wid L) (y 0) (y 1) (y 2))) (hlt : ∀ x, (fi x).toNat < 1024) (fo : S204800x128.Idx → Elt F .f32)
    (O : CellTallies nD τ sig (HIx 1)) (W : Waits sig (HIx 1))
    (k : Unit → Prog (TpuEff nD τ sig (Elt F) Λ₀ (V d (cV L) (jV L)).2) α) (Q : α → sProp 𝕄) :
    tripInv d L q t0 t1 t2 fi fo (embedOut idx t0 t1 t2) O W 0
      ⊢ iprop((tripInv d L q t0 t1 t2 fi fo (embedOut idx t0 t1 t2) O W 50 -∗
          wp frame (wpE (defs₀ (F := F)) 𝒱₀ (V d (cV L) (jV L)) none) Set.univ (k ⟨⟩) Q) -∗
        wp frame (wpE (defs₀ (F := F)) 𝒱₀ (V d (cV L) (jV L)) none) Set.univ
          (Scf.Loop.for k0_t1_loop k0_t1_ok ⟨⟩ (k0_t1_body L t0V (Memref.isWhole_whole _) t1V (Memref.isWhole_whole _) t2V (Memref.isWhole_whole _)
            iV (Memref.isWhole_whole _) oV (Memref.isWhole_whole _) sV (Memref.isWhole_whole _) bV (Memref.isWhole_whole _)
            cc0_scratch2 cc0_scoped0 cc0_scoped1) >>= k) Q) := by
  have h := Scf.wp_for_bind frame (wpE (defs₀ (F := F)) 𝒱₀ (V d (cV L) (jV L)) none) Set.univ _ _ _ k0_t1_ok ⟨⟩
    (k0_t1_body L t0V (Memref.isWhole_whole _) t1V (Memref.isWhole_whole _) t2V (Memref.isWhole_whole _)
            iV (Memref.isWhole_whole _) oV (Memref.isWhole_whole _) sV (Memref.isWhole_whole _) bV (Memref.isWhole_whole _)
            cc0_scratch2 cc0_scoped0 cc0_scoped1)
    (fun n _ => tripInv d L q t0 t1 t2 fi fo (embedOut idx t0 t1 t2) O W n)
    (fun r _ => trip_step d L q idx t0 t1 t2 fi hfi hlt fo O W r) (kk := k) (Q := Q)
  refine h.trans (wand_mono_left ?_)
  iintro H %acc Hi
  iapply H
  rw [← trips_blocks]
  iexact Hi

/-! ## The task -/

/-- The buffers that the call works on, in HBM: the three tables, the row numbers and the result. -/
abbrev t0Loc (d : Dev nD) : Loc nD τ sig := (SparseCore.T d).loc main_arg1
abbrev t1Loc (d : Dev nD) : Loc nD τ sig := (SparseCore.T d).loc main_arg2
abbrev t2Loc (d : Dev nD) : Loc nD τ sig := (SparseCore.T d).loc main_arg3
abbrev iLoc (d : Dev nD) : Loc nD τ sig := (SparseCore.T d).loc main_v3
abbrev oLoc (d : Dev nD) : Loc nD τ sig := (SparseCore.T d).loc main_v4

/-- Tile `w`'s row numbers. -/
def iSet (w : Fin 32) : Finset S32x3x50x128.Idx := Finset.univ.filter fun x => (x 0).val = w.val

/-- Tile `w`'s share of a table: one of 32. -/
def tq (w : Fin 32) : PosShare TreeShare := pieceOf fullShare 32 (by decide) w

omit [FloatOps F] in
/-- What a task works on: its share of each table, its row numbers, its rows of the result at `f`. -/
def piece (idx : S32x3x50x128.Idx → BitVec 32) (t0 t1 t2 : S1024x128.Idx → Elt F .f32) (f : S204800x128.Idx → Elt F .f32) (w : Fin 32) : sProp 𝕄 :=
  iprop((t0Loc d ↦{tq w} t0) ∗ (t1Loc d ↦{tq w} t1) ∗ (t2Loc d ↦{tq w} t2) ∗ (iLoc d ↦[iSet w]{fullShare} idx) ∗ (oLoc d ↦[oSet w]{fullShare} f))

omit [FloatOps F] in
instance piece_storable (idx : S32x3x50x128.Idx → BitVec 32) (t0 t1 t2 : S1024x128.Idx → Elt F .f32) (f : S204800x128.Idx → Elt F .f32) (w : Fin 32) :
    BI.Storable (upEmb : UEmb _ 𝕄) (piece d idx t0 t1 t2 f w) := by
  unfold piece; infer_instance

omit [FloatOps F] in
/-- The list fetch reads the tile's row numbers. -/
theorem set_tile (h) : (tileV (k0_off1 L) h).view.set = iSet (wid L) := by
  ext x
  rw [mem_tile (wid L) (k0_off1 L) h (k0_off1_eq L) x]
  exact ⟨fun h => Finset.mem_filter.mpr ⟨Finset.mem_univ _, congrArg Fin.val h⟩, fun h => Fin.ext (Finset.mem_filter.mp h).2⟩

omit [FloatOps F] in
/-- The signals of a tile that the task uses, and the rest. -/
theorem ownSems0_V :
    (ownSems0 (V d (cV L) (jV L)) : sProp 𝕄)
      = iprop(semVal (V d (cV L) (jV L), .dma cc0_scratch2.sem) 0 ∗ semVal (V d (cV L) (jV L), .dma cc0_scoped0.sem) 0
          ∗ semVal (V d (cV L) (jV L), .dma cc0_scoped1.sem) 0
          ∗ bigSep ((((ownCells (V d (cV L) (jV L))).erase (V d (cV L) (jV L), .dma cc0_scratch2.sem)).erase (V d (cV L) (jV L), .dma cc0_scoped0.sem)).erase
              (V d (cV L) (jV L), .dma cc0_scoped1.sem)) fun g => semVal g 0) := by
  have own (s : SemLoc sig) (hs : s.isScoped .scVector = true) :
      ((V d (cV L) (jV L), s) : GSem nD τ sig) ∈ ownCells (V d (cV L) (jV L)) := mem_ownCells.mpr ⟨rfl, hs⟩
  have ne {s t : SemLoc sig} (h : s ≠ t) : ((V d (cV L) (jV L), s) : GSem nD τ sig) ≠ (V d (cV L) (jV L), t) := fun e => h (Prod.ext_iff.mp e).2
  unfold SparseCore.Cfg.ownSems0
  rw [SparseCore.bigSep_erase' (own (.dma cc0_scratch2.sem) (by decide)),
    SparseCore.bigSep_erase' (Finset.mem_erase.mpr ⟨ne (by decide), own (.dma cc0_scoped0.sem) (by decide)⟩),
    SparseCore.bigSep_erase' (Finset.mem_erase.mpr ⟨ne (by decide), Finset.mem_erase.mpr ⟨ne (by decide), own (.dma cc0_scoped1.sem) (by decide)⟩⟩)]

omit [FloatOps F] in
/-- The buffers of a tile that the task uses, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task of one tile: its rows of the result end at the embedding sum, all else comes back as it was. -/
theorem tile_body (hF : (K (F := F)).Facts) (idx : S32x3x50x128.Idx → BitVec 32) (hlt : ∀ x, (idx x).toNat < 1024)
    (t0 t1 t2 : S1024x128.Idx → Elt F .f32) (fo : S204800x128.Idx → Elt F .f32)
    (O : CellTallies nD τ sig (HIx 1)) (W : Waits sig (HIx 1)) (hO : ∀ g, O g none = 0) :
    iprop(levAts (K (F := F)).L (K (F := F)).lev ∗ emp ∗ piece d idx t0 t1 t2 fo (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L t0V (Memref.isWhole_whole _) t1V (Memref.isWhole_whole _) t2V (Memref.isWhole_whole _) iV (Memref.isWhole_whole _)
            oV (Memref.isWhole_whole _) sV (Memref.isWhole_whole _) bV (Memref.isWhole_whole _) cc0_scratch2 cc0_scoped0 cc0_scoped1)
          fun _ => iprop(piece d idx t0 t1 t2 (embedOut idx t0 t1 t2) (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold piece
  simp only [Prog.lift, Prog.bind_assoc, Prog.bind_op, Prog.bind_ret, pure_bind]
  iintro ⟨#Hlv, -, ⟨H0, H1, H2, Hx, Ho⟩, ⟨⟨%fs, Hs⟩, ⟨%fb, Hb⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hx := (Entails.of_eq (show (iLoc d ↦[iSet (wid L)]{fullShare} idx : sProp 𝕄)
      = ((tileV (k0_off1 L) (k0_off1_inb L)).view.loc (V d (cV L) (jV L)) ↦[(tileV (k0_off1 L) (k0_off1_inb L)).view.set]{fullShare} idx) by rw [set_tile])) $$ Hx
  iapply (Transfers.wp_dmaLocal countersEmb 𝒱₀ (V d (cV L) (jV L)) none (defs := defs₀ (F := F)) (Sd := Finset.univ) (fd := fs)
    (src := tileV (k0_off1 L) (k0_off1_inb L)) (dst := sV) (sm := .dma cc0_scoped0.sem) (fs := idx) (q := fullShare)
    (default : HIx 1) ((sV).view.dmaCredit) rfl (by decide +kernel) (Finset.subset_univ _)) $$ [Hx Hs HsemB]
  · isplitl [Hx]; · iexact Hx
    isplitl [Hs]; · iexact Hs
    iexact HsemB
  iintro Hfl
  iapply (Transfers.wp_waitLocalO countersEmb 𝒱₀ (V d (cV L) (jV L)) none (defs := defs₀ (F := F)) (default : HIx 1) (N := (sV).view.dmaCredit) rfl) $$ [Hfl HO]
  · isplitl [Hfl]; · iexact Hfl
    isplitl [HO]; · iexact HO
    iapply (Transfers.MayWaits.elim (SemLoc.dma cc0_scoped0.sem)) $$ Hmw
  iintro ⟨⟨Hs, Hx⟩, HsemB, HO⟩
  let fi : S3x50x128.Idx → BitVec 32 := (tileV (k0_off1 L) (k0_off1_inb L)).view.read (Elt F) idx
  have hfi : ∀ y, fi y = idx (ptI (wid L) (y 0) (y 1) (y 2)) := fun y =>
    ((View.read_apply _ _).trans (cast_eq _ _)).trans (congrArg idx (emb_tile (wid L) (k0_off1 L) _ (k0_off1_eq L) y))
  have hfilt : ∀ x, (fi x).toNat < 1024 := fun x => by rw [hfi]; exact hlt _
  ihave Hs := (Entails.of_eq (show ((sV).view.loc (V d (cV L) (jV L)) ↦{fullShare} (sV).view.write (Elt F) fs fi Finset.univ : sProp 𝕄)
      = ((sV).view.loc (V d (cV L) (jV L)) ↦{fullShare} fi) by rw [View.write_whole_univ])) $$ Hs
  iapply (wp_trips d L (tq (wid L)) idx t0 t1 t2 fi hfi hfilt fo O W) $$ [H0 H1 H2 Hs Hb Ho HsemA HsemC HO]
  · unfold tripInv
    isplitl [H0]; · iexact H0
    isplitl [H1]; · iexact H1
    isplitl [H2]; · iexact H2
    isplitl [Hs]; · iexact Hs
    isplitl [Hb]; · iexists fb; iexact Hb
    isplitl [Ho]
    · iapply (Entails.of_eq (pointsTo_congr (ℓ := oLoc d) (q := fullShare) (I := oSet (wid L)) (outUpTo_zero (wid L) fo (embedOut idx t0 t1 t2)))) $$ Ho
    isplitl [HsemA]; · iexact HsemA
    isplitl [HsemC]; · iexact HsemC
    isplitr [HO]; · iexact Hmw
    iexists _
    isplitr
    rotate_left; · iexact HO
    ipureintro
    exact waits_grow fun p hp => Or.inl hp
  unfold tripInv
  iintro ⟨H0, H1, H2, Hs, ⟨%fb', Hb⟩, Ho, HsemA, HsemC, -, HO⟩
  sl_step
  isplitl [H0 H1 H2 Hx Ho]
  · isplitl [H0]; · iexact H0
    isplitl [H1]; · iexact H1
    isplitl [H2]; · iexact H2
    isplitl [Hx]
    · iapply (Entails.of_eq (show (iLoc d ↦[iSet (wid L)]{fullShare} idx : sProp 𝕄)
        = ((tileV (k0_off1 L) (k0_off1_inb L)).view.loc (V d (cV L) (jV L)) ↦[(tileV (k0_off1 L) (k0_off1_inb L)).view.set]{fullShare} idx) by rw [set_tile]).symm)
      iexact Hx
    iapply (Entails.of_eq (pointsTo_congr (ℓ := oLoc d) (q := fullShare) (I := oSet (wid L)) (outUpTo_fifty (wid L) fo (embedOut idx t0 t1 t2)))) $$ Ho
  isplitl [Hs Hb Hbufs]
  · isplitl [Hs]; · iexists fi; iexact Hs
    isplitl [Hb]; · iexists fb'; iexact Hb
    iexact Hbufs
  isplitl [HsemA HsemB HsemC Hsems]
  · isplitl [HsemA]; · iexact HsemA
    isplitl [HsemB]; · iexact HsemB
    isplitl [HsemC]; · iexact HsemC
    iexact Hsems
  iexact HO

end Tile

end Cert.Proof.KernelIdeal

end
-- ==== Proof.KernelIdealRun.lean ====
/- The kernel's run: what the call hands each tile and takes back, the operations before and after it, and the final
   memory.

   The four operations before the call lay the positions out tile by tile (`idxOf`); the call writes the embedding sum
   (`embedOut`), tile by tile; the reshape after it gives the result. -/
module

public import Idealize.ShloMosaic.Lib.SparseCore.Quiescent
public import Idealize.ShloMosaic.Lib.StableHlo.Run
public import proofs.«01_k».proof.Proof.KernelIdealTile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The positions, tile by tile -/

/-- The positions as the call reads them: per tile, per table, fifty lists of 128. -/
def idxOf (pos : S1024x200x3.Idx → BitVec 32) : S32x3x50x128.Idx → BitVec 32 :=
  transpose S32x3x50x128 [1, 0, 2, 3] (shapeCast S3x32x50x128 (transpose S3x204800 [1, 0] (shapeCast S204800x3 pos shapeCasts_S1024x200x3_S204800x3)
    transposes_S204800x3_S3x204800_1_0) shapeCasts_S3x204800_S3x32x50x128) transposes_S3x32x50x128_S32x3x50x128_1_0_2_3

/-- Each is one of the positions given. -/
theorem idxOf_lt (pos : S1024x200x3.Idx → BitVec 32) (h : ∀ x, (pos x).toNat < 1024) (x : S32x3x50x128.Idx) : (idxOf pos x).toNat < 1024 := h _

variable (m : (ℓ : Loc nD τ sig) → Buf (Elt F) ℓ) (ρ : Dev nD → PrngReg)

abbrev posLoc (d : Dev nD) : Loc nD τ sig := (SparseCore.T d).loc main_arg0
abbrev resLoc (d : Dev nD) : Loc nD τ sig := (SparseCore.T d).loc main_v5

/-- What the proof asks of the launch memory: every position names a row of the tables. -/
def PreOK : Prop := ∀ (d : Dev nD) (x : S1024x200x3.Idx), (m (posLoc d) x : BitVec 32).toNat < 1024

/-- Tile `i` of SparseCore `c` by its number. -/
def widN (c i : ℕ) : Fin 32 := ⟨(2 * i + c) % 32, Nat.mod_lt _ (by decide)⟩

theorem wid_eq (L : grid0.Coords) : wid L = widN (L 0).val (L 1).val := by
  have h0 : (L 0).val < 2 := (L 0).isLt
  have h1 : (L 1).val < 16 := (L 1).isLt
  exact Fin.ext (Nat.mod_eq_of_lt (show 2 * (L 1).val + (L 0).val < 32 by omega)).symm

variable [FloatOps F]

/-- The call's result. -/
def outOf (d : Dev nD) : S204800x128.Idx → Elt F .f32 := embedOut (idxOf (m (posLoc d))) (m (t0Loc d)) (m (t1Loc d)) (m (t2Loc d))

/-- A task's operands, and its results. -/
abbrev inP (d : Dev nD) (w : Fin 32) : sProp 𝕄 := piece d (idxOf (m (posLoc d))) (m (t0Loc d)) (m (t1Loc d)) (m (t2Loc d)) (m (oLoc d)) w
abbrev outP (d : Dev nD) (w : Fin 32) : sProp 𝕄 := piece d (idxOf (m (posLoc d))) (m (t0Loc d)) (m (t1Loc d)) (m (t2Loc d)) (outOf m d) w

/-- The one call hands each SparseCore its sixteen tiles' pieces, and each tile its own. -/
def P : (K (F := F)).Pay (nD := nD) (Val := Elt F) (Name := ℕ) (U := UU) where
  st := fun q d c => match q with | 0 => bigSep Finset.univ fun i : Fin ((K (F := F)).nSub 0) => inP m d (widN c.val i.val)
  dn := fun q d c => match q with | 0 => bigSep Finset.univ fun i : Fin ((K (F := F)).nSub 0) => outP m d (widN c.val i.val)
  go := fun q d c i => match q with | 0 => inP m d (widN c.val i.val)
  td := fun q d c i => match q with | 0 => outP m d (widN c.val i.val)
  x := fun _ _ => iprop(emp)

instance P_storable : (P (F := F) m).IsStorable where
  st q d c := match q with
    | 0 => (inferInstance : BI.Storable (upEmb : UEmb _ 𝕄) (bigSep Finset.univ fun i : Fin ((K (F := F)).nSub 0) => inP m d (widN c.val i.val)))
  dn q d c := match q with
    | 0 => (inferInstance : BI.Storable (upEmb : UEmb _ 𝕄) (bigSep Finset.univ fun i : Fin ((K (F := F)).nSub 0) => outP m d (widN c.val i.val)))
  go q d c i := match q with | 0 => piece_storable d _ _ _ _ _ _
  td q d c i := match q with | 0 => piece_storable d _ _ _ _ _ _

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          t0V (Memref.isWhole_whole _) t1V (Memref.isWhole_whole _) t2V (Memref.isWhole_whole _) iV (Memref.isWhole_whole _)
          oV (Memref.isWhole_whole _) sV (Memref.isWhole_whole _) bV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) hF (idxOf (m (posLoc d))) (idxOf_lt _ (hpre d)) (m (t0Loc d)) (m (t1Loc d)) (m (t2Loc d)) (m (oLoc d)) O W hO
  rw [wid_eq] at h
  exact h.trans (wp_mono frame _ _ fun _ => obl_post)

theorem vecSplit : (K (F := F)).VecSplit' (P m) 0 := by
  intro d c
  show (bigSep Finset.univ fun i : Fin ((K (F := F)).nSub 0) => inP m d (widN c.val i.val)) ⊢ |={Set.univ}=> iprop(
      (bigSep Finset.univ fun i : Fin ((K (F := F)).nSub 0) => inP m d (widN c.val i.val))
      ∗ ((bigSep Finset.univ fun i : Fin ((K (F := F)).nSub 0) => outP m d (widN c.val i.val))
          -∗ (bigSep Finset.univ fun i : Fin ((K (F := F)).nSub 0) => outP m d (widN c.val i.val))))
  iintro H; imodintro
  isplitl [H]; · iexact H
  iintro H; iexact H

/-! ## The arrays split among the 32 tiles -/

omit [FloatOps F] in
/-- Two SparseCores of sixteen tiles are 32 tiles. -/
theorem tiles_eq (Φ : Fin 32 → sProp 𝕄) :
    (bigSep Finset.univ fun c : Fin ((K (F := F)).nCore 0) => bigSep Finset.univ fun i : Fin ((K (F := F)).nSub 0) => Φ (widN c.val i.val)) = bigSep Finset.univ Φ := by
  let e : Fin 2 × Fin 16 ≃ Fin 32 := (Equiv.prodComm _ _).trans (finProdFinEquiv (m := 16) (n := 2))
  rw [bigSep_univ_equiv e Φ, bigSep_univ_prod]
  refine bigSep_congr fun c _ => bigSep_congr fun i _ => congrArg Φ (Fin.ext ?_)
  have hc : c.val < 2 := c.isLt
  have hi : i.val < 16 := i.isLt
  show (2 * i.val + c.val) % 32 = c.val + 2 * i.val
  omega

omit [FloatOps F] in
theorem iSet_cover (d : Dev nD) (f : S32x3x50x128.Idx → BitVec 32) :
    (iLoc d ↦{fullShare} f : sProp 𝕄) = bigSep Finset.univ fun w : Fin 32 => iLoc d ↦[iSet w]{fullShare} f := by
  have hd : ∀ i ∈ (Finset.univ : Finset (Fin 32)), ∀ j ∈ (Finset.univ : Finset (Fin 32)), i ≠ j → Disjoint (iSet i) (iSet j) :=
    fun i _ j _ h => Finset.disjoint_left.mpr fun x hx hy => h (Fin.ext ((Finset.mem_filter.mp hx).2.symm.trans (Finset.mem_filter.mp hy).2))
  have hu : Finset.univ.biUnion iSet = Finset.univ :=
    Finset.eq_univ_of_forall fun x => Finset.mem_biUnion.mpr ⟨x 0, Finset.mem_univ _, Finset.mem_filter.mpr ⟨Finset.mem_univ _, rfl⟩⟩
  rw [← pointsTo_biUnion Finset.univ (ℓ := iLoc d) iSet hd, hu]

omit [FloatOps F] in
theorem oSet_cover (d : Dev nD) (f : S204800x128.Idx → Elt F .f32) :
    (oLoc d ↦{fullShare} f : sProp 𝕄) = bigSep Finset.univ fun w : Fin 32 => oLoc d ↦[oSet w]{fullShare} f := by
  have hd : ∀ i ∈ (Finset.univ : Finset (Fin 32)), ∀ j ∈ (Finset.univ : Finset (Fin 32)), i ≠ j → Disjoint (oSet i) (oSet j) :=
    fun i _ j _ h => Finset.disjoint_left.mpr fun x hx hy => h (Fin.ext ((Finset.mem_filter.mp hx).2.symm.trans (Finset.mem_filter.mp hy).2))
  have hlt (x : S204800x128.Idx) : (x 0).val / 6400 < 32 := by
    have hx : (x 0).val < 204800 := (x 0).isLt
    omega
  have hu : Finset.univ.biUnion oSet = Finset.univ :=
    Finset.eq_univ_of_forall fun x => Finset.mem_biUnion.mpr ⟨⟨(x 0).val / 6400, hlt x⟩, Finset.mem_univ _, Finset.mem_filter.mpr ⟨Finset.mem_univ _, rfl⟩⟩
  rw [← pointsTo_biUnion Finset.univ (ℓ := oLoc d) oSet hd, hu]

omit [FloatOps F] in
/-- The call's arrays are its tiles' pieces. -/
theorem pieces_eq (d : Dev nD) (idx : S32x3x50x128.Idx → BitVec 32) (t0 t1 t2 : S1024x128.Idx → Elt F .f32) (f : S204800x128.Idx → Elt F .f32) :
    iprop((t0Loc d ↦{fullShare} t0) ∗ (t1Loc d ↦{fullShare} t1) ∗ (t2Loc d ↦{fullShare} t2) ∗ (iLoc d ↦{fullShare} idx) ∗ (oLoc d ↦{fullShare} f) : sProp 𝕄)
      = bigSep Finset.univ fun w : Fin 32 => piece d idx t0 t1 t2 f w := by
  unfold piece
  rw [bigSep_sep', bigSep_sep', bigSep_sep', bigSep_sep', ← iSet_cover, ← oSet_cover,
    pointsTo_piecesOf (ℓ := t0Loc d) Finset.univ t0 (show 0 < 32 by decide) fullShare,
    pointsTo_piecesOf (ℓ := t1Loc d) Finset.univ t1 (show 0 < 32 by decide) fullShare,
    pointsTo_piecesOf (ℓ := t2Loc d) Finset.univ t2 (show 0 < 32 by decide) fullShare]
  rfl

theorem st0_eq (d : Dev nD) : (bigSep Finset.univ fun c : Fin ((K (F := F)).nCore 0) => (P m).st 0 d c)
    = iprop((t0Loc d ↦{fullShare} m (t0Loc d)) ∗ (t1Loc d ↦{fullShare} m (t1Loc d)) ∗ (t2Loc d ↦{fullShare} m (t2Loc d))
        ∗ (iLoc d ↦{fullShare} idxOf (m (posLoc d))) ∗ (oLoc d ↦{fullShare} m (oLoc d))) :=
  (tiles_eq (inP m d)).trans (pieces_eq d _ _ _ _ _).symm
theorem dn0_eq (d : Dev nD) : (bigSep Finset.univ fun c : Fin ((K (F := F)).nCore 0) => (P m).dn 0 d c)
    = iprop((t0Loc d ↦{fullShare} m (t0Loc d)) ∗ (t1Loc d ↦{fullShare} m (t1Loc d)) ∗ (t2Loc d ↦{fullShare} m (t2Loc d))
        ∗ (iLoc d ↦{fullShare} idxOf (m (posLoc d))) ∗ (oLoc d ↦{fullShare} outOf m d)) :=
  (tiles_eq (outP m d)).trans (pieces_eq d _ _ _ _ _).symm

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The operations around the call -/

abbrev pos' : DevRef τ sig := Proc.devRef .tc (main_arg0 : Ref sig .tc)
abbrev t0' : DevRef τ sig := Proc.devRef .tc (main_arg1 : Ref sig .tc)
abbrev t1' : DevRef τ sig := Proc.devRef .tc (main_arg2 : Ref sig .tc)
abbrev t2' : DevRef τ sig := Proc.devRef .tc (main_arg3 : Ref sig .tc)
abbrev a' : DevRef τ sig := Proc.devRef .tc (main_v0 : Ref sig .tc)
abbrev b' : DevRef τ sig := Proc.devRef .tc (main_v1 : Ref sig .tc)
abbrev c' : DevRef τ sig := Proc.devRef .tc (main_v2 : Ref sig .tc)
abbrev i' : DevRef τ sig := Proc.devRef .tc (main_v3 : Ref sig .tc)
abbrev o' : DevRef τ sig := Proc.devRef .tc (main_v4 : Ref sig .tc)
abbrev r' : DevRef τ sig := Proc.devRef .tc (main_v5 : Ref sig .tc)

abbrev opA : HloOp τ sig (Elt F) := StableHlo.reshape main_arg0 main_v0 (rfl : (.i32 : EltTy) = .i32) shapeCasts_S1024x200x3_S204800x3
abbrev opB : HloOp τ sig (Elt F) := StableHlo.unary main_v0 main_v1
  ((transpose S3x204800 [1, 0] · transposes_S204800x3_S3x204800_1_0) : (⟨S204800x3, .i32⟩ : BufTy).Contents (Elt F) → (⟨S3x204800, .i32⟩ : BufTy).Contents (Elt F))
abbrev opC : HloOp τ sig (Elt F) := StableHlo.reshape main_v1 main_v2 (rfl : (.i32 : EltTy) = .i32) shapeCasts_S3x204800_S3x32x50x128
abbrev opD : HloOp τ sig (Elt F) := StableHlo.unary main_v2 main_v3
  ((transpose S32x3x50x128 [1, 0, 2, 3] · transposes_S3x32x50x128_S32x3x50x128_1_0_2_3) : (⟨S3x32x50x128, .i32⟩ : BufTy).Contents (Elt F) → (⟨S32x3x50x128, .i32⟩ : BufTy).Contents (Elt F))
abbrev opR : HloOp τ sig (Elt F) := StableHlo.reshape main_v4 main_v5 (rfl : (.f32 : EltTy) = .f32) shapeCasts_S204800x128_S1024x200x128

/-- The ten arrays of the program. -/
abbrev S10 : Finset (DevRef τ sig) := {pos', t0', t1', t2', a', b', c', i', o', r'}

omit [FloatOps F] in
theorem held_S10 (d : Dev nD) (W : Valuation τ sig (Elt F)) :
    (held (T d) S10 W : sProp 𝕄)
      = iprop((posLoc d ↦{fullShare} W pos') ∗ (t0Loc d ↦{fullShare} W t0') ∗ (t1Loc d ↦{fullShare} W t1') ∗ (t2Loc d ↦{fullShare} W t2')
          ∗ ((SparseCore.T d).loc main_v0 ↦{fullShare} W a') ∗ ((SparseCore.T d).loc main_v1 ↦{fullShare} W b') ∗ ((SparseCore.T d).loc main_v2 ↦{fullShare} W c')
          ∗ (iLoc d ↦{fullShare} W i') ∗ (oLoc d ↦{fullShare} W o') ∗ resLoc d ↦{fullShare} W r') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((posLoc d ↦{fullShare} W main_arg0) ∗ (t0Loc d ↦{fullShare} W main_arg1) ∗ (t1Loc d ↦{fullShare} W main_arg2) ∗ (t2Loc d ↦{fullShare} W main_arg3)
          ∗ ((SparseCore.T d).loc main_v0 ↦{fullShare} W main_v0) ∗ ((SparseCore.T d).loc main_v1 ↦{fullShare} W main_v1) ∗ ((SparseCore.T d).loc main_v2 ↦{fullShare} W main_v2)
          ∗ (iLoc d ↦{fullShare} W main_v3) ∗ (oLoc d ↦{fullShare} W main_v4) ∗ resLoc d ↦{fullShare} W main_v5) := by
  unfold unscopedBufs
  rw [show (Finset.univ.filter fun b : Ref sig .tc => ¬ b.isScoped)
      = {main_arg0, main_arg1, main_arg2, main_arg3, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch, before the call, after it, and at the end. -/
def V0 (d : Dev nD) : Valuation τ sig (Elt F) := fun b => m (d, b)
def V4 (d : Dev nD) : Valuation τ sig (Elt F) := (opD (F := F)).result ((opC (F := F)).result ((opB (F := F)).result ((opA (F := F)).result (V0 m d))))
def V5 (d : Dev nD) : Valuation τ sig (Elt F) := Function.update (V4 m d) o' (outOf m d)
def V6 (d : Dev nD) : Valuation τ sig (Elt F) := (opR (F := F)).result (V5 m d)

/-- The program's result: the call's, in the positions' own shape. -/
def resOf (d : Dev nD) : S1024x200x128.Idx → Elt F .f32 := shapeCast S1024x200x128 (outOf m d) shapeCasts_S204800x128_S1024x200x128

theorem unscoped_held (d : Dev nD) : (unscopedBufs d (fun b => m ((SparseCore.T d).loc b)) : sProp 𝕄) = held (T d) S10 (V0 m d) := by
  rw [unscopedBufs_eq, held_S10]; rfl

/-- An array that no operation before the call writes. -/
theorem V4_ne (d : Dev nD) (b : DevRef τ sig) (hb : b ∉ ({a', b', c', i'} : Finset (DevRef τ sig))) : V4 m d b = m (d, b) := by
  simp only [Finset.mem_insert, Finset.mem_singleton, not_or] at hb
  unfold V4
  rw [(opD (F := F)).result_of_not_mem _ (show b ∉ ({i'} : Finset (DevRef τ sig)) from fun h => hb.2.2.2 (Finset.mem_singleton.mp h)),
    (opC (F := F)).result_of_not_mem _ (show b ∉ ({c'} : Finset (DevRef τ sig)) from fun h => hb.2.2.1 (Finset.mem_singleton.mp h)),
    (opB (F := F)).result_of_not_mem _ (show b ∉ ({b'} : Finset (DevRef τ sig)) from fun h => hb.2.1 (Finset.mem_singleton.mp h)),
    (opA (F := F)).result_of_not_mem _ (show b ∉ ({a'} : Finset (DevRef τ sig)) from fun h => hb.1 (Finset.mem_singleton.mp h))]
  rfl

/-- The positions as the call reads them. -/
theorem V4_i (d : Dev nD) : V4 m d i' = idxOf (m (posLoc d)) := by
  unfold V4
  rw [StableHlo.unary_result, StableHlo.reshape_result, StableHlo.unary_result, StableHlo.reshape_result]
  rfl

theorem V5_ne (d : Dev nD) (b : DevRef τ sig) (hb : b ≠ o') : V5 m d b = V4 m d b := Function.update_of_ne hb _ _
theorem V5_o (d : Dev nD) : V5 m d o' = outOf m d := Function.update_self _ _ _
theorem V6_ne (d : Dev nD) (b : DevRef τ sig) (hb : b ∉ ({r'} : Finset (DevRef τ sig))) : V6 m d b = V5 m d b := (opR (F := F)).result_of_not_mem _ hb
theorem V6_r (d : Dev nD) : V6 m d r' = resOf m d := by
  unfold V6
  rw [StableHlo.reshape_result, V5_o]
  rfl

theorem hA : (opA (F := F)).bufs ⊆ S10 := show ({pos', a'} : Finset (DevRef τ sig)) ⊆ S10 by decide
theorem hB : (opB (F := F)).bufs ⊆ S10 := show ({a', b'} : Finset (DevRef τ sig)) ⊆ S10 by decide
theorem hC : (opC (F := F)).bufs ⊆ S10 := show ({b', c'} : Finset (DevRef τ sig)) ⊆ S10 by decide
theorem hD : (opD (F := F)).bufs ⊆ S10 := show ({c', i'} : Finset (DevRef τ sig)) ⊆ S10 by decide
theorem hR : (opR (F := F)).bufs ⊆ S10 := show ({o', r'} : Finset (DevRef τ sig)) ⊆ S10 by decide

/-- The arrays before the call. -/
theorem held_V4 (d : Dev nD) :
    (held (T d) S10 (V4 m d) : sProp 𝕄)
      = iprop((posLoc d ↦{fullShare} m (posLoc d)) ∗ (t0Loc d ↦{fullShare} m (t0Loc d)) ∗ (t1Loc d ↦{fullShare} m (t1Loc d)) ∗ (t2Loc d ↦{fullShare} m (t2Loc d))
          ∗ ((SparseCore.T d).loc main_v0 ↦{fullShare} V4 m d a') ∗ ((SparseCore.T d).loc main_v1 ↦{fullShare} V4 m d b') ∗ ((SparseCore.T d).loc main_v2 ↦{fullShare} V4 m d c')
          ∗ (iLoc d ↦{fullShare} idxOf (m (posLoc d))) ∗ (oLoc d ↦{fullShare} m (oLoc d)) ∗ resLoc d ↦{fullShare} m (resLoc d)) := by
  rw [held_S10, V4_ne m d pos' (by decide), V4_ne m d t0' (by decide), V4_ne m d t1' (by decide), V4_ne m d t2' (by decide),
    V4_ne m d o' (by decide), V4_ne m d r' (by decide), V4_i]

/-- The arrays after the call. -/
theorem held_V5 (d : Dev nD) :
    (held (T d) S10 (V5 m d) : sProp 𝕄)
      = iprop((posLoc d ↦{fullShare} m (posLoc d)) ∗ (t0Loc d ↦{fullShare} m (t0Loc d)) ∗ (t1Loc d ↦{fullShare} m (t1Loc d)) ∗ (t2Loc d ↦{fullShare} m (t2Loc d))
          ∗ ((SparseCore.T d).loc main_v0 ↦{fullShare} V4 m d a') ∗ ((SparseCore.T d).loc main_v1 ↦{fullShare} V4 m d b') ∗ ((SparseCore.T d).loc main_v2 ↦{fullShare} V4 m d c')
          ∗ (iLoc d ↦{fullShare} idxOf (m (posLoc d))) ∗ (oLoc d ↦{fullShare} outOf m d) ∗ resLoc d ↦{fullShare} m (resLoc d)) := by
  rw [held_S10, V5_o, V5_ne m d pos' (by decide), V5_ne m d t0' (by decide), V5_ne m d t1' (by decide), V5_ne m d t2' (by decide),
    V5_ne m d a' (by decide), V5_ne m d b' (by decide), V5_ne m d c' (by decide), V5_ne m d i' (by decide), V5_ne m d r' (by decide),
    V4_ne m d pos' (by decide), V4_ne m d t0' (by decide), V4_ne m d t1' (by decide), V4_ne m d t2' (by decide), V4_ne m d r' (by decide), V4_i]

/-- What the run leaves the claims: the arguments as given, and the result. -/
abbrev FIN (d : Dev nD) : sProp 𝕄 :=
  iprop((posLoc d ↦{fullShare} m (posLoc d)) ∗ (t0Loc d ↦{fullShare} m (t0Loc d)) ∗ (t1Loc d ↦{fullShare} m (t1Loc d)) ∗ (t2Loc d ↦{fullShare} m (t2Loc d))
    ∗ resLoc d ↦{fullShare} resOf m d)

/-- The arrays at the end. -/
theorem held_V6 (d : Dev nD) : (held (T d) S10 (V6 m d) : sProp 𝕄) ⊢ FIN m d := by
  rw [held_S10, V6_r, V6_ne m d pos' (by decide), V6_ne m d t0' (by decide), V6_ne m d t1' (by decide), V6_ne m d t2' (by decide),
    V5_ne m d pos' (by decide), V5_ne m d t0' (by decide), V5_ne m d t1' (by decide), V5_ne m d t2' (by decide),
    V4_ne m d pos' (by decide), V4_ne m d t0' (by decide), V4_ne m d t1' (by decide), V4_ne m d t2' (by decide)]
  iintro ⟨Hp, H0, H1, H2, -, -, -, -, -, Hr⟩
  isplitl [Hp]; · iexact Hp
  isplitl [H0]; · iexact H0
  isplitl [H1]; · iexact H1
  isplitl [H2]; · iexact H2
  iexact Hr

/-- The program on device `d`: four operations that lay the positions out, the call, and the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S10) hA (V := V0 m d)) $$ [Hb Hheld]
  · isplitl [Hb] <;> iassumption
  iintro ⟨Hb, Hheld⟩
  rw [wp_ret]; imodintro
  iapply (wp_hlo_within 𝒱 (SparseCore.T d) none Set.univ (op := opB) (S := S10) hB (V := (opA (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S10) hC (V := (opB (F := F)).result ((opA (F := F)).result (V0 m d)))) $$ [Hb Hheld]
  · isplitl [Hb] <;> iassumption
  iintro ⟨Hb, Hheld⟩
  rw [wp_ret]; imodintro
  iapply (wp_hlo_within 𝒱 (SparseCore.T d) none Set.univ (op := opD) (S := S10) hD
    (V := (opC (F := F)).result ((opB (F := F)).result ((opA (F := F)).result (V0 m d))))) $$ [Hb Hheld]
  · isplitl [Hb] <;> iassumption
  iintro ⟨Hb, Hheld⟩
  rw [wp_ret]; imodintro
  ihave Hh := (show (held (T d) S10 ((opD (F := F)).result ((opC (F := F)).result ((opB (F := F)).result ((opA (F := F)).result (V0 m d))))) : sProp 𝕄)
    ⊢ _ from Entails.of_eq (held_V4 (F := F) m d)) $$ Hheld
  icases Hh with ⟨Hp, H0, H1, H2, Ha, Hbb, Hc, Hi, Ho, Hr⟩
  iapply ((K (F := F)).wp_run (D (F := F)) 𝒱 (EH := EH) (P := P m) κ d 0) $$ [Hst Hp H0 H1 H2 Ha Hbb Hc Hi Ho Hr Hb Hts]
  isplitr; · iexact Hctx
  isplitl [Hst]; · iexact Hst
  isplitl [H0 H1 H2 Hi Ho]
  · rw [st0_eq]
    isplitl [H0]; · iexact H0
    isplitl [H1]; · iexact H1
    isplitl [H2]; · iexact H2
    isplitl [Hi]; · iexact Hi
    iexact Ho
  iintro ⟨Hst, Hdn⟩
  ihave Hdn' := (Entails.of_eq (dn0_eq m d)) $$ Hdn
  icases Hdn' with ⟨H0, H1, H2, Hi, Ho⟩
  iapply (wp_hlo_within 𝒱 (SparseCore.T d) none Set.univ (op := opR) (S := S10) hR (V := V5 m d)) $$ [Hb Hp H0 H1 H2 Ha Hbb Hc Hi Ho Hr]
  · isplitl [Hb]; · iexact Hb
    rw [held_V5]
    isplitl [Hp]; · iexact Hp
    isplitl [H0]; · iexact H0
    isplitl [H1]; · iexact H1
    isplitl [H2]; · iexact H2
    isplitl [Ha]; · iexact Ha
    isplitl [Hbb]; · iexact Hbb
    isplitl [Hc]; · iexact Hc
    isplitl [Hi]; · iexact Hi
    isplitl [Ho]; · iexact Ho
    iexact Hr
  iintro ⟨Hb, Hheld⟩
  rw [wp_ret]; imodintro; imodintro
  isplitl [Hst]; · iexact Hst
  isplitr [Hb Hts]
  · iapply (show (held (T d) S10 ((opR (F := F)).result (V5 m d)) : sProp 𝕄) ⊢ FIN m d from held_V6 m d) $$ Hheld
  isplitl [Hb] <;> iassumption

/-- What the claims read of device `d`'s final memory. -/
def fq (d : Dev nD) (s' : Phys nD τ sig (Elt F)) : Prop :=
  s'.mem.mem (resLoc d) = resOf m d ∧ s'.mem.mem (posLoc d) = m (posLoc d) ∧ s'.mem.mem (t0Loc d) = m (t0Loc d)
    ∧ s'.mem.mem (t1Loc d) = m (t1Loc d) ∧ s'.mem.mem (t2Loc d) = m (t2Loc d)

omit [FloatOps F] in
/-- An array held whole is in memory as it is held. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hp, H0, H1, H2, Hr⟩, HSI⟩
  ihave H := (agree s' (posLoc d) (m (posLoc d))) $$ [HSI Hp]
  · isplitl [HSI] <;> iassumption
  icases H with ⟨%hp, HSI⟩
  ihave H := (agree s' (t0Loc d) (m (t0Loc d))) $$ [HSI H0]
  · isplitl [HSI] <;> iassumption
  icases H with ⟨%h0, HSI⟩
  ihave H := (agree s' (t1Loc d) (m (t1Loc d))) $$ [HSI H1]
  · isplitl [HSI] <;> iassumption
  icases H with ⟨%h1, HSI⟩
  ihave H := (agree s' (t2Loc d) (m (t2Loc d))) $$ [HSI H2]
  · isplitl [HSI] <;> iassumption
  icases H with ⟨%h2, HSI⟩
  ihave H := (agree s' (resLoc d) (resOf m d)) $$ [HSI Hr]
  · isplitl [HSI] <;> iassumption
  icases H with ⟨%hr, HSI⟩
  ipureintro; exact ⟨hr, hp, h0, h1, h2⟩

/-! ## The run -/

def QC : PUnit × MemSt nD τ sig (Elt F) → Prop := fun r =>
  (∀ c : Dev nD, r.2.mem (resLoc c) = resOf m c ∧ r.2.mem (posLoc c) = m (posLoc c) ∧ r.2.mem (t0Loc c) = m (t0Loc c)
    ∧ r.2.mem (t1Loc c) = m (t1Loc c) ∧ r.2.mem (t2Loc c) = m (t2Loc c)) ∧ r.2.sem = fun _ => 0

/-- Every run ends, with the result at the embedding sum, the arguments as given and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.ReferenceValue.lean ====
/- What the reference computes, read element by element.

   The reference clears row 0 of each table, takes the rows that the positions name, with a mask for a position outside
   the table, and adds the three. With every position inside the table the mask is off, and where row 0 is zero already
   clearing it changes nothing (`cleared_eq`), so each element is the sum of three table elements. -/
module

public import proofs.«01_k».proof.Proof.Gen.ReferenceIdeal.Run
public import proofs.«01_k».proof.Proof.KernelRun
public import Idealize.ShloMosaic.Lib.ReduceAll
public import Idealize.ShloMosaic.Lib.Routing.OpsSet
public import Idealize.ShloMosaic.Lib.Pipeline.Value
public import Idealize.ShloMosaic.Lib.Pointwise
public import Idealize.ShloMosaic.Lib.ValueIdxCore

@[expose] public section

noncomputable section

namespace Cert.Proof.Reference

open Cert.ReferenceIdeal Cert.ReferenceIdeal.Gen Cert.ReferenceIdeal.Value
open Idealize.ShloMosaic Idealize.ShloMosaic.TcCoe Idealize.SL.Sem
open Cert.Proof.KernelIdeal (ptT)

variable {F : FTy → Type} [FloatOps F]

/-! ## Indices by their coordinates -/

/-- Sequence `b`, position `l`. -/
def ptB (b : Fin 1024) (l : Fin 200) : S1024x200.Idx := fun i => match i with
  | 0 => b
  | 1 => l

/-- Sequence `b`, position `l`, and the one entry of an index vector. -/
def ptB1 (b : Fin 1024) (l : Fin 200) : S1024x200x1.Idx := fun i => match i with
  | 0 => b
  | 1 => l
  | 2 => (0 : Fin 1)

/-- Sequence `b`, position `l`, table `a`. -/
def ptP (b : Fin 1024) (l : Fin 200) (a : Fin 3) : S1024x200x3.Idx := fun i => match i with
  | 0 => b
  | 1 => l
  | 2 => a

/-- Sequence `b`, position `l`, lane `c` of the result. -/
def ptY (b : Fin 1024) (l : Fin 200) (c : Fin 128) : S1024x200x128.Idx := fun i => match i with
  | 0 => b
  | 1 => l
  | 2 => c

/-- Every index of the result is one of these. -/
theorem eq_ptY (y : S1024x200x128.Idx) : ∃ b l c, y = ptY b l c :=
  ⟨y 0, y 1, y 2, funext fun i => match i with
    | 0 => rfl
    | 1 => rfl
    | 2 => rfl⟩

/-! ## The reference's steps, named -/

/-- The row numbers as the gather takes them: a negative one counts from the table's end. -/
def wrapped (p : IVec S1024x200 32) : IVec S1024x200x1 32 :=
  broadcastInDim S1024x200x1 ![0, 1] bcast_S1024x200_S1024x200x1_0_1
    (select (cmpi .slt p (broadcastInDim S1024x200 ![] bcast_S_S1024x200 (constantI S_ 32 0#32)))
      (addi p (broadcastInDim S1024x200 ![] bcast_S_S1024x200 (constantI S_ 32 1024#32))) p)

/-- Whether each row number lies inside the table. -/
def inside (p : IVec S1024x200 32) : IVec S1024x200 1 :=
  Host.reduce IntOp.andi
    (andi (cmpi .sge (wrapped p) (broadcastInDim S1024x200x1 ![] bcast_S_S1024x200x1 (constantI S_ 32 0#32)))
      (cmpi .sle (wrapped p) (broadcastInDim S1024x200x1 ![0, 1, 2] bcast_S1x1x1_S1024x200x1_0_1_2
        (broadcastInDim S1x1x1 ![2] bcast_S1_S1x1x1_2 (constantI S1 32 1023#32)))))
    (constantI S_ 1 1#1) reducesTo_S1024x200x1_S1024x200_d2 h_S_

/-- The rows taken from a table, the mask's fill where a row number lies outside. -/
def took (x : FVec F S1024x128 .f32) (p : IVec S1024x200 32) : FVec F S1024x200x128 .f32 :=
  select (broadcastInDim S1024x200x128 ![0, 1] bcast_S1024x200_S1024x200x128_0_1 (inside p))
    (Host.gather gather_S1024x128_S1024x200x1_S1024x200x128_2_0_n_n_0_2_1128 x (wrapped p))
    (broadcastInDim S1024x200x128 ![] bcast_S_S1024x200x128 (constant S_ .f32 0x7FC00000#32))

/-- A table with row 0 cleared. -/
def cleared (x : FVec F S1024x128 .f32) : FVec F S1024x128 .f32 :=
  Host.scatter scatter_S1024x128_S1_S128_0_0_0_0 (fun _ b => b) x (broadcastInDim S1 ![] bcast_S_S1 (constantI S_ 32 0#32))
    (broadcastInDim S128 ![] bcast_S_S128 (constant S_ .f32 0x00000000#32))

/-- The positions of the first table. -/
def col0 (pos : IVec S1024x200x3 32) : IVec S1024x200 32 :=
  shapeCast S1024x200 (extractStridedSlice S1024x200x1 ![0, 0, 0] pos slices_S1024x200x3_S1024x200x1_0_0_0) shapeCasts_S1024x200x1_S1024x200

/-- The positions of the second table. -/
def col1 (pos : IVec S1024x200x3 32) : IVec S1024x200 32 :=
  shapeCast S1024x200 (extractStridedSlice S1024x200x1 ![0, 0, 1] pos slices_S1024x200x3_S1024x200x1_0_0_1) shapeCasts_S1024x200x1_S1024x200

/-- The positions of the third table. -/
def col2 (pos : IVec S1024x200x3 32) : IVec S1024x200 32 :=
  shapeCast S1024x200 (extractStridedSlice S1024x200x1 ![0, 0, 2] pos slices_S1024x200x3_S1024x200x1_0_0_2) shapeCasts_S1024x200x1_S1024x200

/-- The reference's result as a function of its four arguments: the rows of the three cleared tables, added to zero. -/
def total (pos : IVec S1024x200x3 32) (x0 x1 x2 : FVec F S1024x128 .f32) : FVec F S1024x200x128 .f32 :=
  addf (addf (addf (broadcastInDim S1024x200x128 ![] bcast_S_S1024x200x128 (constant S_ .f32 0x00000000#32))
    (took (cleared x0) (col0 pos))) (took (cleared x1) (col1 pos))) (took (cleared x2) (col2 pos))

set_option maxRecDepth 8192 in
/-- The run's result is `total` of the arguments. -/
theorem result_eq (m : (ℓ : Loc nD τ sig) → Buf (Elt F) ℓ) (c : Dev nD) :
    res_main_v21 m c = total (F := F) (m ((c.tc : Thread nD τ).loc main_arg0)) (m ((c.tc : Thread nD τ).loc main_arg1))
      (m ((c.tc : Thread nD τ).loc main_arg2)) (m ((c.tc : Thread nD τ).loc main_arg3)) := by
  unfold res_main_v21 total took inside wrapped cleared col0 col1 col2
  rfl

/-! ## A column of the positions -/

/-- Column `a` of the positions, read at `(b, l)`. -/
theorem col_apply (pos : IVec S1024x200x3 32) (a : Fin 3) (h : S1024x200x3.Slices ![0, 0, a.val] S1024x200x1) (b : Fin 1024) (l : Fin 200) :
    shapeCast S1024x200 (extractStridedSlice S1024x200x1 ![0, 0, a.val] pos h) shapeCasts_S1024x200x1_S1024x200 (ptB b l) = pos (ptP b l a) := by
  rw [shapeCast_apply _ _ (ptB b l) (ptB1 b l) (by
    rw [Shape.rowMajor_val_three, Shape.rowMajor_val_two]
    show (b.val * 200 + l.val) * 1 + 0 = b.val * 200 + l.val
    omega)]
  refine congrArg pos (funext fun i => Fin.ext ?_)
  match i with
  | 0 => exact Nat.zero_add _
  | 1 => exact Nat.zero_add _
  | 2 => exact Nat.add_zero _

/-! ## Taking rows -/

/-- A word below 1024, read signed, is itself. -/
theorem toInt_of_lt {w : BitVec 32} (h : w.toNat < 1024) : w.toInt = (w.toNat : Int) := by
  rw [BitVec.toInt_eq_toNat_cond, if_pos (by omega)]

/-- A row number inside the table is not changed by the wrap. -/
theorem wrapped_apply (p : IVec S1024x200 32) (b : Fin 1024) (l : Fin 200) (hp : (p (ptB b l)).toNat < 1024) (z : S1024x200x1.Idx)
    (h0 : (z 0).val = b.val) (h1 : (z 1).val = l.val) : wrapped p z = p (ptB b l) := by
  have hz : ∀ (f : IVec S1024x200 32), broadcastInDim S1024x200x1 ![0, 1] bcast_S1024x200_S1024x200x1_0_1 f z = f (ptB b l) := fun f =>
    congrArg f (funext fun i => Fin.ext (match i with
      | 0 => h0
      | 1 => h1))
  rw [wrapped, hz]
  show Scalar.select (IntOp.cmpi .slt (p (ptB b l)) 0#32) _ _ = _
  have e : IntOp.cmpi .slt (p (ptB b l)) 0#32 = 0#1 := ValueIdx.eq_zero_of_ne_one fun e => by
    have := IntOp.cmpi_slt.1 e
    rw [toInt_of_lt hp] at this
    exact absurd this (by simp)
  rw [e, ValueIdx.select_zero]

/-- With every row number inside the table the mask is on everywhere. -/
theorem inside_eq (p : IVec S1024x200 32) (hp : ∀ z, (p z).toNat < 1024) (y : S1024x200.Idx) : inside p y = 1#1 := by
  refine Host.reduce_andi_one _ _ _ _ _ rfl fun z => ?_
  have e := wrapped_apply p (z 0) (z 1) (hp _) z rfl rfl
  refine IntOp.andi_eq_one.2 ⟨IntOp.cmpi_sge.2 ?_, IntOp.cmpi_sle.2 ?_⟩
  · show (0#32 : BitVec 32).toInt ≤ (wrapped p z).toInt
    rw [e, toInt_of_lt (hp _)]
    exact Int.natCast_nonneg _
  · show (wrapped p z).toInt ≤ (1023#32 : BitVec 32).toInt
    rw [e, toInt_of_lt (hp _), toInt_of_lt (by decide)]
    have := hp (ptB (z 0) (z 1))
    show ((p (ptB (z 0) (z 1))).toNat : Int) ≤ 1023
    omega

/-- The gather read at `(b, l, c)`: lane `c` of the row that the row number at `(b, l)` names. -/
theorem gather_apply (x : FVec F S1024x128 .f32) (p : IVec S1024x200 32) (b : Fin 1024) (l : Fin 200) (c : Fin 128) (r : Fin 1024)
    (hr : (p (ptB b l)).toNat = r.val) :
    Host.gather gather_S1024x128_S1024x200x1_S1024x200x128_2_0_n_n_0_2_1128 x (wrapped p) (ptY b l c) = x (ptT r c) := by
  have hl : (p (ptB b l)).toNat < 1024 := by rw [hr]; exact r.isLt
  unfold Host.gather
  refine congrArg x (funext fun i => Fin.ext ?_)
  show GatherDims.start _ (ptY b l c) (wrapped p) i + GatherDims.batchCoord _ (ptY b l c) i + GatherDims.offCoord _ (ptY b l c) i = _
  rw [GatherDims.batchCoord_eq_zero _ _ _ (by exact List.not_mem_nil), Nat.add_zero]
  match i with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap gather_S1024x128_S1024x200x1_S1024x200x128_2_0_n_n_0_2_1128 from
      List.mem_singleton.mpr rfl), wrapped_apply p b l hl _ rfl rfl, toInt_of_lt hl, hr]
    show min r.val 1023 = r.val
    have := r.isLt
    omega
  | 1 =>
    unfold GatherDims.start
    rw [dif_neg (show (1 : Fin 2) ∉ GatherDims.startIndexMap gather_S1024x128_S1024x200x1_S1024x200x128_2_0_n_n_0_2_1128 from
      fun h => absurd (List.mem_singleton.1 h) (by decide)), Nat.zero_add]
    rfl

/-- The rows taken from a table, read at `(b, l, c)`, every row number inside the table. -/
theorem took_apply (x : FVec F S1024x128 .f32) (p : IVec S1024x200 32) (hp : ∀ z, (p z).toNat < 1024) (b : Fin 1024) (l : Fin 200)
    (c : Fin 128) (r : Fin 1024) (hr : (p (ptB b l)).toNat = r.val) : took x p (ptY b l c) = x (ptT r c) := by
  have e : broadcastInDim S1024x200x128 ![0, 1] bcast_S1024x200_S1024x200x128_0_1 (inside p) (ptY b l c) = 1#1 := inside_eq p hp _
  rw [took, ValueIdx.select_apply, e, ValueIdx.select_one, gather_apply x p b l c r hr]

/-! ## Clearing row 0 -/

/-- An update of the clearing lands in row 0. -/
theorem lands_row (k : S128.Idx) (r : Fin 1024) (c : Fin 128)
    (h : scatter_S1024x128_S1_S128_0_0_0_0.resultIdx? k (broadcastInDim S1 ![] bcast_S_S1 (constantI S_ 32 0#32)) = some (ptT r c)) :
    r = 0 := by
  have h0 := (Routing.resultIdx?_eq_some _ _ _ _).1 h 0
  unfold ScatterDims.start ScatterDims.window at h0
  rw [dif_pos (show (0 : Fin 2) ∈ ScatterDims.scatterDimsToOperandDims scatter_S1024x128_S1_S128_0_0_0_0 from List.mem_singleton.mpr rfl),
    dif_neg (show (0 : Fin 2) ∉ ScatterDims.sKept scatter_S1024x128_S1_S128_0_0_0_0 from
      (show (0 : Fin 2) ∉ S1024x128.kept [0] by decide))] at h0
  have h1 : (0 : Int) + ((0 : Nat) : Int) = (r.val : Int) := h0
  exact Fin.ext (show r.val = 0 by omega)

/-- Clearing row 0 of a table that has zeros there changes nothing. -/
theorem cleared_eq (x : FVec F S1024x128 .f32) (hx : ∀ c : Fin 128, x (ptT 0 c) = FloatOps.ofBits .f32 0x00000000#32) : cleared x = x := by
  funext i
  obtain ⟨r, c, rfl⟩ : ∃ r c, i = ptT r c := ⟨i 0, i 1, funext fun j => match j with
    | 0 => rfl
    | 1 => rfl⟩
  by_cases h : ∃ k : S128.Idx,
      scatter_S1024x128_S1_S128_0_0_0_0.resultIdx? k (broadcastInDim S1 ![] bcast_S_S1 (constantI S_ 32 0#32)) = some (ptT r c)
  · obtain ⟨k, hk⟩ := h
    refine Routing.scatter_set_hit _ _ _ _ _ (x (ptT r c)) (fun k' _ => ?_) k hk
    rw [lands_row k r c hk, hx]
    rfl
  · exact Routing.scatter_set_miss _ _ _ _ _ fun k hk => h ⟨k, hk⟩

/-- The reference's result at `(b, l, c)`, every position inside the tables and row 0 of each table zero. -/
theorem total_apply (pos : IVec S1024x200x3 32) (x0 x1 x2 : FVec F S1024x128 .f32) (hp : ∀ z, (pos z).toNat < 1024)
    (h0 : ∀ c : Fin 128, x0 (ptT 0 c) = FloatOps.ofBits .f32 0x00000000#32)
    (h1 : ∀ c : Fin 128, x1 (ptT 0 c) = FloatOps.ofBits .f32 0x00000000#32)
    (h2 : ∀ c : Fin 128, x2 (ptT 0 c) = FloatOps.ofBits .f32 0x00000000#32) (b : Fin 1024) (l : Fin 200) (c : Fin 128) :
    total pos x0 x1 x2 (ptY b l c) = FloatOps.addf (FloatOps.addf (FloatOps.addf (FloatOps.ofBits .f32 0x00000000#32)
      (x0 (ptT ⟨(pos (ptP b l 0)).toNat, hp _⟩ c))) (x1 (ptT ⟨(pos (ptP b l 1)).toNat, hp _⟩ c)))
      (x2 (ptT ⟨(pos (ptP b l 2)).toNat, hp _⟩ c)) := by
  unfold total
  rw [cleared_eq x0 h0, cleared_eq x1 h1, cleared_eq x2 h2,
    ← took_apply x0 (col0 pos) (fun z => hp _) b l c ⟨_, hp (ptP b l 0)⟩ (congrArg BitVec.toNat (col_apply pos 0 _ b l)),
    ← took_apply x1 (col1 pos) (fun z => hp _) b l c ⟨_, hp (ptP b l 1)⟩ (congrArg BitVec.toNat (col_apply pos 1 _ b l)),
    ← took_apply x2 (col2 pos) (fun z => hp _) b l c ⟨_, hp (ptP b l 2)⟩ (congrArg BitVec.toNat (col_apply pos 2 _ b l))]
  generalize took x0 (col0 pos) = u0
  generalize took x1 (col1 pos) = u1
  generalize took x2 (col2 pos) = u2
  rfl

end Cert.Proof.Reference

end
-- ==== Proof.Inputs.lean ====
/- What the two preconditions say of the arguments.

   The first says that every position is at least 0 and below 1024, so that as an unsigned number it is below 1024. The
   second says this too, and that row 0 of each table is zero. -/
module

public import proofs.«01_k».proof.Proof.Gen.Pre_indices_in_range
public import proofs.«01_k».proof.Proof.Gen.Pre_drawn_inputs
public import proofs.«01_k».proof.Proof.ReferenceValue
public import Idealize.ShloMosaic.PureOps.Ideal.Laws

@[expose] public section

noncomputable section

namespace Cert.Proof.Inputs

open Idealize.ShloMosaic
open Cert.Pre_drawn_inputs (S1024x200x3 S1024x128 S_ S1x128 S128)
open Cert.Proof.KernelIdeal (ptT)

/-- A word that is at least 0 and below 1024, read signed, is below 1024 read unsigned. -/
theorem toNat_lt {w : BitVec 32} (h : IntOp.andi (IntOp.cmpi .sge w 0#32) (IntOp.cmpi .slt w 1024#32) = 1#1) : w.toNat < 1024 := by
  obtain ⟨h0, h1⟩ := IntOp.andi_eq_one.1 h
  have h0' := IntOp.cmpi_sge.1 h0
  have h1' := IntOp.cmpi_slt.1 h1
  rw [show (0#32 : BitVec 32).toInt = 0 by decide] at h0'
  rw [show (1024#32 : BitVec 32).toInt = 1024 by decide] at h1'
  have hw := w.isLt
  rw [BitVec.toInt_eq_toNat_cond] at h0' h1'
  split at h0' <;> omega

variable {F : FTy → Type} [FloatOps F]

/-- Under the first precondition every position names a row of the tables. -/
theorem range_of_indices (pos : IVec S1024x200x3 32) (t0 t1 t2 : FVec F S1024x128 .f32)
    (h : Cert.Pre_indices_in_range.fn (F := F) pos t0 t1 t2 = fun _ => 1#1) (x : S1024x200x3.Idx) : (pos x).toNat < 1024 := by
  have h' := congrFun h (fun i => i.elim0)
  dsimp only [Cert.Pre_indices_in_range.fn] at h'
  exact toNat_lt (Host.reduce_andi_all _ _ _ _ _ h' x)

/-- Zero, as the precondition writes it, in every lane of row 0. -/
def ZeroRow (t : FVec F S1024x128 .f32) : Prop :=
  Host.reduce IntOp.andi (cmpf .oeq (shapeCast S128 (extractStridedSlice S1x128 ![0, 0] t Cert.Pre_drawn_inputs.Facts.slices_S1024x128_S1x128_0_0)
      Cert.Pre_drawn_inputs.Facts.shapeCasts_S1x128_S128)
    (broadcastInDim S128 ![] Cert.Pre_drawn_inputs.Facts.bcast_S_S128 (constant S_ .f32 0x00000000#32)))
    (constantI S_ 1 1#1) Cert.Pre_drawn_inputs.Facts.reducesTo_S128_S_d0 Cert.Pre_drawn_inputs.Facts.h_S_ (fun i => i.elim0) = 1#1

/-- The second precondition, taken apart: every position names a row, and row 0 of each table is zero. -/
theorem drawn_parts (pos : IVec S1024x200x3 32) (t0 t1 t2 : FVec F S1024x128 .f32)
    (h : Cert.Pre_drawn_inputs.fn (F := F) pos t0 t1 t2 = fun _ => 1#1) :
    (∀ x, (pos x).toNat < 1024) ∧ ZeroRow t0 ∧ ZeroRow t1 ∧ ZeroRow t2 := by
  have h' := congrFun h (fun i => i.elim0)
  dsimp only [Cert.Pre_drawn_inputs.fn, Cert.Pre_drawn_inputs.fn_part1] at h'
  obtain ⟨h', z2⟩ := IntOp.andi_eq_one.1 h'
  obtain ⟨h', z1⟩ := IntOp.andi_eq_one.1 h'
  obtain ⟨h', z0⟩ := IntOp.andi_eq_one.1 h'
  exact ⟨fun x => toNat_lt (Host.reduce_andi_all _ _ _ _ _ h' x), z0, z1, z2⟩

/-- One lane of row 0. -/
def ptL (c : Fin 128) : S128.Idx := fun i => match i with
  | 0 => c

/-- Row 0, as a one-row table. -/
def ptR (c : Fin 128) : S1x128.Idx := fun i => match i with
  | 0 => (0 : Fin 1)
  | 1 => c

/-- At the extended reals a zero row holds zero. -/
theorem zero_of (t : FVec Ideal S1024x128 .f32) (h : ZeroRow t) (c : Fin 128) :
    t (ptT 0 c) = FloatOps.ofBits (F := Ideal) .f32 0x00000000#32 := by
  have e := Host.reduce_andi_all _ _ _ _ _ h (ptL c)
  have hs : shapeCast S128 (extractStridedSlice S1x128 ![0, 0] t Cert.Pre_drawn_inputs.Facts.slices_S1024x128_S1x128_0_0)
      Cert.Pre_drawn_inputs.Facts.shapeCasts_S1x128_S128 (ptL c) = t (ptT 0 c) := by
    rw [shapeCast_apply _ _ (ptL c) (ptR c) (by
      rw [Shape.rowMajor_val_two, Shape.rowMajor_val_one]
      show 0 * 128 + c.val = c.val
      omega)]
    refine congrArg t (funext fun i => Fin.ext ?_)
    match i with
    | 0 => rfl
    | 1 => exact Nat.zero_add _
  have e' : Ideal.cmp .oeq (shapeCast S128 (extractStridedSlice S1x128 ![0, 0] t Cert.Pre_drawn_inputs.Facts.slices_S1024x128_S1x128_0_0)
      Cert.Pre_drawn_inputs.Facts.shapeCasts_S1x128_S128 (ptL c)) (FloatOps.ofBits (F := Ideal) .f32 0x00000000#32) = 1#1 := e
  rw [hs] at e'
  by_contra hne
  have e'' : BitVec.ofBool (decide (t (ptT 0 c) = FloatOps.ofBits (F := Ideal) .f32 0x00000000#32)) = 1#1 := e'
  rw [decide_eq_false hne] at e''
  exact absurd e'' (by decide)

end Cert.Proof.Inputs

end
-- ==== Proof.Claims.lean ====
/- The claims.

   The kernel's result, read at sequence `b`, position `l` and lane `c`, is the sum of lane `c` of the three rows that the
   positions at `(b, l)` name (`result_apply`): the tile, the list and the entry that hold row `200 b + l` of the flat
   result are those whose position the first four operations put there (`idxOf_apply`). At the extended reals this is the
   reference's element (`values_eq`). The frames are the runs with the values dropped. -/
module

public import proofs.«01_k».proof.Proof.Inputs

@[expose] public section

noncomputable section

namespace Cert.Proof

open Idealize.ShloMosaic Idealize.SL.Sem

/-! ## The kernel's result by its coordinates -/

section Kernel

open Cert.KernelIdeal Cert.KernelIdeal.Gen Cert.Proof.KernelIdeal
open Cert.Proof.Reference (ptP ptY)

/-- Row `R` of the flattened positions, table `a`. -/
def ptF (R : Fin 204800) (a : Fin 3) : S204800x3.Idx := fun i => match i with
  | 0 => R
  | 1 => a

/-- Table `a`, row `R`: the flattened positions turned. -/
def ptG (a : Fin 3) (R : Fin 204800) : S3x204800.Idx := fun i => match i with
  | 0 => a
  | 1 => R

/-- Table `a`, tile `w`, list `g`, entry `r`. -/
def ptA (a : Fin 3) (w : Fin 32) (g : Fin 50) (r : Fin 128) : S3x32x50x128.Idx := fun i => match i with
  | 0 => a
  | 1 => w
  | 2 => g
  | 3 => r

/-- Entry `r` of list `g` of tile `w` is the position at `(b, l)` with `200 b + l = 6400 w + 128 g + r`. -/
theorem idxOf_apply (pos : S1024x200x3.Idx → BitVec 32) (w : Fin 32) (a : Fin 3) (g : Fin 50) (r : Fin 128) (b : Fin 1024) (l : Fin 200)
    (h : (w.val * 50 + g.val) * 128 + r.val = b.val * 200 + l.val) : idxOf pos (ptI w a g r) = pos (ptP b l a) := by
  have hR : b.val * 200 + l.val < 204800 := by have := b.isLt; have := l.isLt; omega
  unfold idxOf
  rw [transpose_apply _ _ _ (ptI w a g r) (ptA a w g r) (fun i => match i with
      | 0 => rfl
      | 1 => rfl
      | 2 => rfl
      | 3 => rfl),
    shapeCast_apply _ _ (ptA a w g r) (ptG a ⟨b.val * 200 + l.val, hR⟩) (by
      rw [Shape.rowMajor_val_two, Shape.rowMajor_val_four]
      show a.val * 204800 + (b.val * 200 + l.val) = ((a.val * 32 + w.val) * 50 + g.val) * 128 + r.val
      omega),
    transpose_apply _ _ _ (ptG a ⟨b.val * 200 + l.val, hR⟩) (ptF ⟨b.val * 200 + l.val, hR⟩ a) (fun i => match i with
      | 0 => rfl
      | 1 => rfl),
    shapeCast_apply _ _ (ptF ⟨b.val * 200 + l.val, hR⟩ a) (ptP b l a) (by
      rw [Shape.rowMajor_val_two, Shape.rowMajor_val_three]
      rfl)]

variable {F : FTy → Type} [FloatOps F]

/-- The embedding sum of the laid-out positions, at row `200 b + l` and lane `c`. -/
theorem embedOut_apply (pos : S1024x200x3.Idx → BitVec 32) (t0 t1 t2 : S1024x128.Idx → Elt F .f32) (hp : ∀ x, (pos x).toNat < 1024)
    (b : Fin 1024) (l : Fin 200) (c : Fin 128) (R : Fin 204800) (hR : R.val = b.val * 200 + l.val) :
    embedOut (idxOf pos) t0 t1 t2 (ptO R c) = FloatOps.addf (FloatOps.addf (t0 (ptT ⟨(pos (ptP b l 0)).toNat, hp _⟩ c))
      (t1 (ptT ⟨(pos (ptP b l 1)).toNat, hp _⟩ c))) (t2 (ptT ⟨(pos (ptP b l 2)).toNat, hp _⟩ c)) := by
  have hw : R.val / 6400 < 32 := by have := R.isLt; omega
  have hg : R.val % 6400 / 128 < 50 := by omega
  have hr : R.val % 128 < 128 := by omega
  have e : ∀ a : Fin 3, rowAt (idxOf pos (ptI ⟨R.val / 6400, hw⟩ a ⟨R.val % 6400 / 128, hg⟩ ⟨R.val % 128, hr⟩)) = ⟨(pos (ptP b l a)).toNat, hp _⟩ :=
    fun a => by
      rw [idxOf_apply pos _ a _ _ b l (by show (R.val / 6400 * 50 + R.val % 6400 / 128) * 128 + R.val % 128 = _; omega)]
      exact Fin.ext (Nat.mod_eq_of_lt (hp _))
  rw [← e 0, ← e 1, ← e 2]
  rfl

/-- The kernel's result at `(b, l, c)`. -/
theorem result_apply (m : (ℓ : Loc nD τ sig) → Buf (Elt F) ℓ) (d : Dev nD) (hp : ∀ x : S1024x200x3.Idx, (m (posLoc d) x : BitVec 32).toNat < 1024)
    (b : Fin 1024) (l : Fin 200) (c : Fin 128) :
    resOf m d (ptY b l c) = FloatOps.addf (FloatOps.addf ((m (t0Loc d) : S1024x128.Idx → Elt F .f32) (ptT ⟨(m (posLoc d) (ptP b l 0) : BitVec 32).toNat, hp _⟩ c))
      ((m (t1Loc d) : S1024x128.Idx → Elt F .f32) (ptT ⟨(m (posLoc d) (ptP b l 1) : BitVec 32).toNat, hp _⟩ c)))
      ((m (t2Loc d) : S1024x128.Idx → Elt F .f32) (ptT ⟨(m (posLoc d) (ptP b l 2) : BitVec 32).toNat, hp _⟩ c)) := by
  have hR : b.val * 200 + l.val < 204800 := by have := b.isLt; have := l.isLt; omega
  unfold resOf outOf
  rw [shapeCast_apply _ _ (ptY b l c) (ptO ⟨b.val * 200 + l.val, hR⟩ c) (by
    rw [Shape.rowMajor_val_two, Shape.rowMajor_val_three]
    rfl)]
  exact embedOut_apply _ _ _ _ hp b l c _ rfl

end Kernel

/-! ## The two results are equal -/

/-- At the extended reals, adding to zero changes nothing, so the reference's result is the kernel's, the arguments equal,
    every position inside the tables and row 0 of each table zero. -/
theorem values_eq (m : (ℓ : Loc Cert.KernelIdeal.nD Cert.KernelIdeal.τ Cert.KernelIdeal.sig) → Buf (Elt Ideal) ℓ) (d : Dev Cert.KernelIdeal.nD)
    (h : Cert.Pre_drawn_inputs.fn (F := Ideal) (m (KernelIdeal.posLoc d)) (m (KernelIdeal.t0Loc d)) (m (KernelIdeal.t1Loc d)) (m (KernelIdeal.t2Loc d))
      = fun _ => 1#1) :
    Reference.total (F := Ideal) (m (KernelIdeal.posLoc d)) (m (KernelIdeal.t0Loc d)) (m (KernelIdeal.t1Loc d)) (m (KernelIdeal.t2Loc d))
      = KernelIdeal.resOf m d := by
  obtain ⟨hp, z0, z1, z2⟩ := Inputs.drawn_parts _ _ _ _ h
  funext y
  obtain ⟨b, l, c, rfl⟩ := Reference.eq_ptY y
  rw [Reference.total_apply _ _ _ _ hp (Inputs.zero_of _ z0) (Inputs.zero_of _ z1) (Inputs.zero_of _ z2) b l c]
  refine Eq.trans ?_ (result_apply m d hp b l c).symm
  refine congrArg (fun u : Ideal .f32 => FloatOps.addf (FloatOps.addf u _) _) ?_
  show Ideal.ofBits .f32 0x00000000#32 + _ = _
  rw [Ideal.ofBits_zero_f32]
  exact zero_add _

/-! ## The frames -/

/-- The first precondition puts every position inside the tables. -/
theorem ok_Kernel (m : (ℓ : Loc Cert.Kernel.nD Cert.Kernel.τ Cert.Kernel.sig) → Buf (Elt Bits) ℓ) (h : Cert.Pre_Kernel m) : Kernel.PreOK m :=
  fun d => Inputs.range_of_indices _ _ _ _ (h d)

/-- The same of the kernel over the extended reals. -/
theorem ok_KernelIdeal (m : (ℓ : Loc Cert.KernelIdeal.nD Cert.KernelIdeal.τ Cert.KernelIdeal.sig) → Buf (Elt Ideal) ℓ) (h : Cert.Pre_KernelIdeal m) :
    KernelIdeal.PreOK m :=
  fun d => Inputs.range_of_indices _ _ _ _ (h d)

/-- The second precondition does so too. -/
theorem ok_drawn (m : (ℓ : Loc Cert.KernelIdeal.nD Cert.KernelIdeal.τ Cert.KernelIdeal.sig) → Buf (Elt Ideal) ℓ) (h : Cert.Pre_KernelIdeal_drawn_inputs m) :
    KernelIdeal.PreOK m :=
  fun d => (Inputs.drawn_parts _ _ _ _ (h d)).1

/-- The kernel ends, its arguments as given and every semaphore at zero. -/
theorem frame_kernel : Cert.quiescent_Kernel := fun m g h =>
  (θ_run (Cert.Kernel.defs (F := Bits)) _ _).mono (fun _ e => ⟨fun c => (e.1 c).2, e.2⟩) (Kernel.run_main (F := Bits) m g (ok_Kernel m h))

/-- So does the kernel over the extended reals. -/
theorem frame_kernelIdeal : Cert.quiescent_KernelIdeal := fun m g h =>
  (θ_run (Cert.KernelIdeal.defs (F := Ideal)) _ _).mono (fun _ e => ⟨fun c => (e.1 c).2, e.2⟩)
    (KernelIdeal.run_main (F := Ideal) m g (ok_KernelIdeal m h))

/-- The same under the second precondition. -/
theorem frame_kernelIdeal_drawn : Cert.quiescent_KernelIdeal_pre_drawn_inputs := fun m g h =>
  (θ_run (Cert.KernelIdeal.defs (F := Ideal)) _ _).mono (fun _ e => ⟨fun c => (e.1 c).2, e.2⟩)
    (KernelIdeal.run_main (F := Ideal) m g (ok_drawn m h))

/-- The reference ends, its arguments as given; it has no semaphore. -/
theorem frame_reference : Cert.quiescent_ReferenceIdeal := fun m g _ =>
  (θ_run (Cert.ReferenceIdeal.defs (F := Ideal)) _ _).mono (fun r e => ⟨fun c => (e c).2, sem_eq_zero_of_no_sems (by decide) r.2⟩)
    (Cert.ReferenceIdeal.Value.run (F := Ideal) m g)

/-- The same under the second precondition. -/
theorem frame_reference_drawn : Cert.quiescent_ReferenceIdeal_pre_drawn_inputs := fun m g _ => frame_reference m g trivial

/-! ## Kernel and reference agree -/

/-- From equal arguments the two end with equal results: every element of the kernel's one result, exactly. -/
theorem agree : Cert.algebraic_KernelIdeal_ReferenceIdeal_pre_drawn_inputs := by
  intro m g m' g' h hm
  refine ⟨fun c => KernelIdeal.resOf m c, (θ_run (Cert.KernelIdeal.defs (F := Ideal)) _ _).mono (fun _ e c => e.1 c)
    (KernelIdeal.run_main (F := Ideal) m g (ok_drawn m h)), ?_⟩
  refine (θ_run (Cert.ReferenceIdeal.defs (F := Ideal)) _ _).mono (fun _ e c => ⟨(e c).1.trans ?_, (e c).2⟩)
    (Cert.ReferenceIdeal.Value.run (F := Ideal) m' g')
  obtain ⟨h0, h1, h2, h3⟩ := hm c
  refine (Reference.result_eq m' c).trans (Eq.trans ?_ (values_eq m c (h c)))
  rw [h0, h1, h2, h3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_drawn_inputs
public import proofs.«01_k».proof.Proof.Gen.Pre_indices_in_range
public import proofs.«01_k».proof.Proof.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_indices_in_range.Gen.facts,
    Cert.Pre_drawn_inputs.Gen.facts, frame_kernel, frame_kernelIdeal, frame_kernelIdeal_drawn, frame_reference, frame_reference_drawn,
    trivial, agree⟩

end Cert.Proof

end
